-- ==== Defs.lean ====
def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)) →
    ∃ (v0 : (c : Dev Cert.HeadsIdeal.nD) → Buf (Elt Ideal) ((c.tc : Thread Cert.HeadsIdeal.nD Cert.HeadsIdeal.τ).loc Cert.HeadsIdeal.main_v2_0)) (v1 : (c : Dev Cert.HeadsIdeal.nD) → Buf (Elt Ideal) ((c.tc : Thread Cert.HeadsIdeal.nD Cert.HeadsIdeal.τ).loc Cert.HeadsIdeal.main_v2_1)) (v2 : (c : Dev Cert.HeadsIdeal.nD) → Buf (Elt Ideal) ((c.tc : Thread Cert.HeadsIdeal.nD Cert.HeadsIdeal.τ).loc Cert.HeadsIdeal.main_v2_2)) (v3 : (c : Dev Cert.HeadsIdeal.nD) → Buf (Elt Ideal) ((c.tc : Thread Cert.HeadsIdeal.nD Cert.HeadsIdeal.τ).loc Cert.HeadsIdeal.main_v2_3)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v2_0) = v0 c
          ∧ r.2.mem ((c.tc : Thread Cert.HeadsIdeal.nD Cert.HeadsIdeal.τ).loc Cert.HeadsIdeal.main_v2_1) = v1 c
          ∧ r.2.mem ((c.tc : Thread Cert.HeadsIdeal.nD Cert.HeadsIdeal.τ).loc Cert.HeadsIdeal.main_v2_2) = v2 c
          ∧ r.2.mem ((c.tc : Thread Cert.HeadsIdeal.nD Cert.HeadsIdeal.τ).loc Cert.HeadsIdeal.main_v2_3) = v3 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v10) = v0 c
          ∧ r.2.mem ((c.tc : Thread Cert.HeadsRefIdeal.nD Cert.HeadsRefIdeal.τ).loc Cert.HeadsRefIdeal.main_v11) = v1 c
          ∧ r.2.mem ((c.tc : Thread Cert.HeadsRefIdeal.nD Cert.HeadsRefIdeal.τ).loc Cert.HeadsRefIdeal.main_v12) = v2 c
          ∧ r.2.mem ((c.tc : Thread Cert.HeadsRefIdeal.nD Cert.HeadsRefIdeal.τ).loc Cert.HeadsRefIdeal.main_v6) = v3 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v10) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v65) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v37) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v6_0)) (v1 : (c : Dev Cert.MidIdeal.nD) → Buf (Elt Ideal) ((c.tc : Thread Cert.MidIdeal.nD Cert.MidIdeal.τ).loc Cert.MidIdeal.main_v6_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v6_0) = v0 c
          ∧ r.2.mem ((c.tc : Thread Cert.MidIdeal.nD Cert.MidIdeal.τ).loc Cert.MidIdeal.main_v6_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v24) = v0 c
          ∧ r.2.mem ((c.tc : Thread Cert.MidRefIdeal.nD Cert.MidRefIdeal.τ).loc Cert.MidRefIdeal.main_v39) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_Merge_MergeIdeal : Prop :=
  True

def Claim : Prop :=
  ∃ (hHeads : Cert.Heads.Facts) (hHeadsIdeal : Cert.HeadsIdeal.Facts) (hHeadsRefIdeal : Cert.HeadsRefIdeal.Facts) (hGates : Cert.Gates.Facts) (hGatesIdeal : Cert.GatesIdeal.Facts) (hGatesRefIdeal : Cert.GatesRefIdeal.Facts) (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMid : Cert.Mid.Facts) (hMidIdeal : Cert.MidIdeal.Facts) (hMidRefIdeal : Cert.MidRefIdeal.Facts) (hMerge : Cert.Merge.Facts) (hMergeIdeal : Cert.MergeIdeal.Facts) (hMergeRefIdeal : Cert.MergeRefIdeal.Facts) (hPre_finite_scores : Cert.Pre_finite_scores.Facts),
    quiescent_Heads (hHeads := hHeads)
    ∧ quiescent_HeadsIdeal (hHeadsIdeal := hHeadsIdeal)
    ∧ quiescent_HeadsRefIdeal (hHeadsRefIdeal := hHeadsRefIdeal)
    ∧ quiescent_Gates (hGates := hGates)
    ∧ quiescent_GatesIdeal (hGatesIdeal := hGatesIdeal)
    ∧ quiescent_GatesRefIdeal (hGatesRefIdeal := hGatesRefIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Mid (hMid := hMid)
    ∧ quiescent_MidIdeal (hMidIdeal := hMidIdeal)
    ∧ quiescent_MidRefIdeal (hMidRefIdeal := hMidRefIdeal)
    ∧ quiescent_Merge (hMerge := hMerge)
    ∧ quiescent_MergeIdeal (hMergeIdeal := hMergeIdeal)
    ∧ quiescent_MergeRefIdeal (hMergeRefIdeal := hMergeRefIdeal)
    ∧ preserves_Heads_HeadsIdeal
    ∧ algebraic_HeadsIdeal_HeadsRefIdeal (hHeadsIdeal := hHeadsIdeal) (hHeadsRefIdeal := hHeadsRefIdeal)
    ∧ preserves_Gates_GatesIdeal
    ∧ algebraic_GatesIdeal_GatesRefIdeal (hGatesIdeal := hGatesIdeal) (hGatesRefIdeal := hGatesRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Mid_MidIdeal
    ∧ algebraic_MidIdeal_MidRefIdeal (hMidIdeal := hMidIdeal) (hMidRefIdeal := hMidRefIdeal)
    ∧ preserves_Merge_MergeIdeal
-- ==== Pre_finite_scores.lean ====
abbrev S16384x1024 : Shape := ⟨2, ![16384, 1024]⟩
abbrev S8x8x128x512 : Shape := ⟨4, ![8, 8, 128, 512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x8x128x512 : S_.BroadcastsInDim S8x8x128x512 (![] : Fin 0 → Fin S8x8x128x512.rank)
  reducesTo_S8x8x128x512_S_d0_1_2_3 : S8x8x128x512.ReducesTo [0, 1, 2, 3] S_

variable [Facts]

def fn {F : FTy → Type} [FloatOps F] (main_arg0 : FVec F S16384x1024 .bf16) (main_arg1 : FVec F S16384x1024 .bf16) (main_arg2 : FVec F S16384x1024 .bf16) (main_arg3 : FVec F S8x8x128x512 .f32) : IVec S_ 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .bf16 := Host.absf main_arg1
  let main_cst_0 : FVec F S_ .bf16 := constant S_ .bf16 0x7F80#16
  let main_v5 : FVec F S16384x1024 .bf16 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S8x8x128x512 .f32 := Host.absf main_arg3
  let main_cst_2 : FVec F S_ .f32 := constant S_ .f32 0x7F800000#32
  let main_v10 : FVec F S8x8x128x512 .f32 := broadcastInDim S8x8x128x512 ![] bcast_S_S8x8x128x512 main_cst_2
  let main_v11 : IVec S8x8x128x512 1 := cmpf .olt main_v9 main_v10
  let main_c_3 : IVec S_ 1 := constantI S_ 1 1#1
  let main_v12 : IVec S_ 1 := (fun x v => Host.reduce IntOp.andi x v reducesTo_S8x8x128x512_S_d0_1_2_3 h_S_) main_v11 main_c_3
  let main_v13 : IVec S_ 1 := andi main_v8 main_v12
  main_v13
-- ==== Heads.lean ====
abbrev S16384x2048 : Shape := ⟨2, ![16384, 2048]⟩
abbrev S1x2048x8192 : Shape := ⟨3, ![1, 2048, 8192]⟩
abbrev S2048x8192 : Shape := ⟨2, ![2048, 8192]⟩
abbrev S16384x1024 : Shape := ⟨2, ![16384, 1024]⟩
abbrev S1024x2048 : Shape := ⟨2, ![1024, 2048]⟩
abbrev S2048x4096 : Shape := ⟨2, ![2048, 4096]⟩
abbrev S1024x1024 : Shape := ⟨2, ![1024, 1024]⟩
abbrev S2048x1024 : Shape := ⟨2, ![2048, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S1x2048x8192, .f32⟩
  | .hbm, ⟨2, _⟩ => ⟨S2048x8192, .f32⟩
  | .hbm, ⟨3, _⟩ => ⟨S2048x8192, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x4096, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HeadsRefIdeal.lean ====
abbrev S16384x2048 : Shape := ⟨2, ![16384, 2048]⟩
abbrev S1x2048x8192 : Shape := ⟨3, ![1, 2048, 8192]⟩
abbrev S2048x8192 : Shape := ⟨2, ![2048, 8192]⟩
abbrev S16384x8192 : Shape := ⟨2, ![16384, 8192]⟩
abbrev S16384x1024 : Shape := ⟨2, ![16384, 1024]⟩
abbrev S16384x4096 : Shape := ⟨2, ![16384, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x8192, .f32⟩
  | .hbm, ⟨2, _⟩ => ⟨S16384x2048, .f32⟩
  | .hbm, ⟨3, _⟩ => ⟨S2048x8192, .f32⟩
  | .hbm, ⟨4, _⟩ => ⟨S16384x8192, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x4096, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .bf16⟩
  | .hbm, ⟨14, _⟩ => ⟨S16384x1024, .bf16⟩
  | .hbm, ⟨15, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Gates.lean ====
abbrev S16384x2048 : Shape := ⟨2, ![16384, 2048]⟩
abbrev S1x2048x8192 : Shape := ⟨3, ![1, 2048, 8192]⟩
abbrev S2048x8192 : Shape := ⟨2, ![2048, 8192]⟩
abbrev S16384x4096 : Shape := ⟨2, ![16384, 4096]⟩
abbrev S1024x2048 : Shape := ⟨2, ![1024, 2048]⟩
abbrev S2048x4096 : Shape := ⟨2, ![2048, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S1x2048x8192, .f32⟩
  | .hbm, ⟨2, _⟩ => ⟨S2048x8192, .f32⟩
  | .hbm, ⟨3, _⟩ => ⟨S2048x8192, .bf16⟩
  | .hbm, ⟨4, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x4096, .bf16⟩
  | .local _ .vmem, ⟨3, _⟩ => ⟨S1024x4096, .bf16⟩
  | .local _ .vmem, ⟨4, _⟩ => ⟨S1024x4096, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GatesRefIdeal.lean ====
abbrev S16384x2048 : Shape := ⟨2, ![16384, 2048]⟩
abbrev S1x2048x8192 : Shape := ⟨3, ![1, 2048, 8192]⟩
abbrev S2048x8192 : Shape := ⟨2, ![2048, 8192]⟩
abbrev S16384x8192 : Shape := ⟨2, ![16384, 8192]⟩
abbrev S16384x4096 : Shape := ⟨2, ![16384, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x8192, .f32⟩
  | .hbm, ⟨2, _⟩ => ⟨S16384x2048, .f32⟩
  | .hbm, ⟨3, _⟩ => ⟨S2048x8192, .f32⟩
  | .hbm, ⟨4, _⟩ => ⟨S16384x8192, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Attn.lean ====
abbrev S16384x1024 : Shape := ⟨2, ![16384, 1024]⟩
abbrev S8x8x128x512 : Shape := ⟨4, ![8, 8, 128, 512]⟩
abbrev S1024x1024 : Shape := ⟨2, ![1024, 1024]⟩
abbrev S256x1024 : Shape := ⟨2, ![256, 1024]⟩
abbrev S1536x1024 : Shape := ⟨2, ![1536, 1024]⟩
abbrev S64x128 : Shape := ⟨2, ![64, 128]⟩
abbrev S128x128 : Shape := ⟨2, ![128, 128]⟩
abbrev S512x128 : Shape := ⟨2, ![512, 128]⟩
abbrev S128x512 : Shape := ⟨2, ![128, 512]⟩
abbrev S1x1x128x512 : Shape := ⟨4, ![1, 1, 128, 512]⟩
abbrev S128 : Shape := ⟨1, ![128]⟩
abbrev S128x1 : Shape := ⟨2, ![128, 1]⟩
abbrev S512x256 : Shape := ⟨2, ![512, 256]⟩
abbrev S256x512 : Shape := ⟨2, ![256, 512]⟩
abbrev S256x256 : Shape := ⟨2, ![256, 256]⟩

abbrev nBuf : Space → Nat
  | .hbm => 5
  | .vmem => 31
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S8x8x128x512, .f32⟩
  | .hbm, ⟨4, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S8x8x128x512, .f32⟩
  | .local _ .vmem, ⟨27, _⟩ => ⟨S1024x1024, .bf16⟩
  | .local _ .vmem, ⟨28, _⟩ => ⟨S1024x1024, .bf16⟩
  | .local _ .vmem, ⟨29, _⟩ => ⟨S1536x1024, .bf16⟩
  | .local _ .vmem, ⟨30, _⟩ => ⟨S1536x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![16], ![false]⟩

def k0_mult1 (i : grid0.Coords) : BitVec 32 :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c0_i32_48 : BitVec 32 := 0#32
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  v79
def k0_mult2 (i : grid0.Coords) : BitVec 32 :=
  let c24_i32_55 : BitVec 32 := 24#32
  let c0_i32_54 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c1_i32_52 : BitVec 32 := 1#32
  let v83 : BitVec 32 := Scalar.addi v67 c1_i32_52
  let c4_i32_53 : BitVec 32 := 4#32
  let v84 : BitVec 32 := Scalar.subi v83 c4_i32_53
  let v85 : BitVec 32 := Scalar.maxsi c0_i32_54 v84
  let v86 : BitVec 32 := Scalar.minsi c24_i32_55 v85
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v87 : BitVec 32 := Scalar.subi v86 v70
  let c64_i32_56 : BitVec 32 := 64#32
  let v88 : BitVec 32 := Scalar.muli v87 c64_i32_56
  v88
def k0_mult3 (i : grid0.Coords) : BitVec 32 :=
  let c24_i32_60 : BitVec 32 := 24#32
  let c0_i32_59 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c2_i32 : BitVec 32 := 2#32
  let v92 : BitVec 32 := Scalar.addi v67 c2_i32
  let c4_i32_58 : BitVec 32 := 4#32
  let v93 : BitVec 32 := Scalar.subi v92 c4_i32_58
  let v94 : BitVec 32 := Scalar.maxsi c0_i32_59 v93
  let v95 : BitVec 32 := Scalar.minsi c24_i32_60 v94
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v96 : BitVec 32 := Scalar.subi v95 v70
  let c64_i32_61 : BitVec 32 := 64#32
  let v97 : BitVec 32 := Scalar.muli v96 c64_i32_61
  v97
def k0_mult4 (i : grid0.Coords) : BitVec 32 :=
  let c24_i32_65 : BitVec 32 := 24#32
  let c0_i32_64 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c3_i32 : BitVec 32 := 3#32
  let v101 : BitVec 32 := Scalar.addi v67 c3_i32
  let c4_i32_63 : BitVec 32 := 4#32
  let v102 : BitVec 32 := Scalar.subi v101 c4_i32_63
  let v103 : BitVec 32 := Scalar.maxsi c0_i32_64 v102
  let v104 : BitVec 32 := Scalar.minsi c24_i32_65 v103
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v105 : BitVec 32 := Scalar.subi v104 v70
  let c64_i32_66 : BitVec 32 := 64#32
  let v106 : BitVec 32 := Scalar.muli v105 c64_i32_66
  v106
def k0_mult5 (i : grid0.Coords) : BitVec 32 :=
  let c24_i32_71 : BitVec 32 := 24#32
  let c0_i32_70 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c4_i32_68 : BitVec 32 := 4#32
  let v110 : BitVec 32 := Scalar.addi v67 c4_i32_68
  let c4_i32_69 : BitVec 32 := 4#32
  let v111 : BitVec 32 := Scalar.subi v110 c4_i32_69
  let v112 : BitVec 32 := Scalar.maxsi c0_i32_70 v111
  let v113 : BitVec 32 := Scalar.minsi c24_i32_71 v112
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v114 : BitVec 32 := Scalar.subi v113 v70
  let c64_i32_72 : BitVec 32 := 64#32
  let v115 : BitVec 32 := Scalar.muli v114 c64_i32_72
  v115
def k0_mult6 (i : grid0.Coords) : BitVec 32 :=
  let c24_i32_76 : BitVec 32 := 24#32
  let c0_i32_75 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c5_i32 : BitVec 32 := 5#32
  let v119 : BitVec 32 := Scalar.addi v67 c5_i32
  let c4_i32_74 : BitVec 32 := 4#32
  let v120 : BitVec 32 := Scalar.subi v119 c4_i32_74
  let v121 : BitVec 32 := Scalar.maxsi c0_i32_75 v120
  let v122 : BitVec 32 := Scalar.minsi c24_i32_76 v121
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v123 : BitVec 32 := Scalar.subi v122 v70
  let c64_i32_77 : BitVec 32 := 64#32
  let v124 : BitVec 32 := Scalar.muli v123 c64_i32_77
  v124
def k0_mult7 (i : grid0.Coords) : BitVec 32 :=
  let c24_i32_81 : BitVec 32 := 24#32
  let c0_i32_80 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c6_i32 : BitVec 32 := 6#32
  let v128 : BitVec 32 := Scalar.addi v67 c6_i32
  let c4_i32_79 : BitVec 32 := 4#32
  let v129 : BitVec 32 := Scalar.subi v128 c4_i32_79
  let v130 : BitVec 32 := Scalar.maxsi c0_i32_80 v129
  let v131 : BitVec 32 := Scalar.minsi c24_i32_81 v130
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v132 : BitVec 32 := Scalar.subi v131 v70
  let c64_i32_82 : BitVec 32 := 64#32
  let v133 : BitVec 32 := Scalar.muli v132 c64_i32_82
  v133
def k0_mult8 (i : grid0.Coords) : BitVec 32 :=
  let c24_i32_87 : BitVec 32 := 24#32
  let c0_i32_86 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c7_i32_84 : BitVec 32 := 7#32
  let v137 : BitVec 32 := Scalar.addi v67 c7_i32_84
  let c4_i32_85 : BitVec 32 := 4#32
  let v138 : BitVec 32 := Scalar.subi v137 c4_i32_85
  let v139 : BitVec 32 := Scalar.maxsi c0_i32_86 v138
  let v140 : BitVec 32 := Scalar.minsi c24_i32_87 v139
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v141 : BitVec 32 := Scalar.subi v140 v70
  let c64_i32_88 : BitVec 32 := 64#32
  let v142 : BitVec 32 := Scalar.muli v141 c64_i32_88
  v142
def k0_mult9 (i : grid0.Coords) : BitVec 32 :=
  let c24_i32_93 : BitVec 32 := 24#32
  let c0_i32_92 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c8_i32_90 : BitVec 32 := 8#32
  let v146 : BitVec 32 := Scalar.addi v67 c8_i32_90
  let c4_i32_91 : BitVec 32 := 4#32
  let v147 : BitVec 32 := Scalar.subi v146 c4_i32_91
  let v148 : BitVec 32 := Scalar.maxsi c0_i32_92 v147
  let v149 : BitVec 32 := Scalar.minsi c24_i32_93 v148
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v150 : BitVec 32 := Scalar.subi v149 v70
  let c64_i32_94 : BitVec 32 := 64#32
  let v151 : BitVec 32 := Scalar.muli v150 c64_i32_94
  v151
def k0_mult10 (i : grid0.Coords) : BitVec 32 :=
  let c24_i32_98 : BitVec 32 := 24#32
  let c0_i32_97 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c9_i32 : BitVec 32 := 9#32
  let v155 : BitVec 32 := Scalar.addi v67 c9_i32
  let c4_i32_96 : BitVec 32 := 4#32
  let v156 : BitVec 32 := Scalar.subi v155 c4_i32_96
  let v157 : BitVec 32 := Scalar.maxsi c0_i32_97 v156
  let v158 : BitVec 32 := Scalar.minsi c24_i32_98 v157
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v159 : BitVec 32 := Scalar.subi v158 v70
  let c64_i32_99 : BitVec 32 := 64#32
  let v160 : BitVec 32 := Scalar.muli v159 c64_i32_99
  v160
def k0_mult11 (i : grid0.Coords) : BitVec 32 :=
  let c24_i32_103 : BitVec 32 := 24#32
  let c0_i32_102 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c10_i32 : BitVec 32 := 10#32
  let v164 : BitVec 32 := Scalar.addi v67 c10_i32
  let c4_i32_101 : BitVec 32 := 4#32
  let v165 : BitVec 32 := Scalar.subi v164 c4_i32_101
  let v166 : BitVec 32 := Scalar.maxsi c0_i32_102 v165
  let v167 : BitVec 32 := Scalar.minsi c24_i32_103 v166
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v168 : BitVec 32 := Scalar.subi v167 v70
  let c64_i32_104 : BitVec 32 := 64#32
  let v169 : BitVec 32 := Scalar.muli v168 c64_i32_104
  v169
def k0_mult12 (i : grid0.Coords) : BitVec 32 :=
  let c24_i32_108 : BitVec 32 := 24#32
  let c0_i32_107 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c11_i32 : BitVec 32 := 11#32
  let v173 : BitVec 32 := Scalar.addi v67 c11_i32
  let c4_i32_106 : BitVec 32 := 4#32
  let v174 : BitVec 32 := Scalar.subi v173 c4_i32_106
  let v175 : BitVec 32 := Scalar.maxsi c0_i32_107 v174
  let v176 : BitVec 32 := Scalar.minsi c24_i32_108 v175
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v177 : BitVec 32 := Scalar.subi v176 v70
  let c64_i32_109 : BitVec 32 := 64#32
  let v178 : BitVec 32 := Scalar.muli v177 c64_i32_109
  v178
def k0_mult13 (i : grid0.Coords) : BitVec 32 :=
  let c24_i32_113 : BitVec 32 := 24#32
  let c0_i32_112 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c12_i32 : BitVec 32 := 12#32
  let v182 : BitVec 32 := Scalar.addi v67 c12_i32
  let c4_i32_111 : BitVec 32 := 4#32
  let v183 : BitVec 32 := Scalar.subi v182 c4_i32_111
  let v184 : BitVec 32 := Scalar.maxsi c0_i32_112 v183
  let v185 : BitVec 32 := Scalar.minsi c24_i32_113 v184
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v186 : BitVec 32 := Scalar.subi v185 v70
  let c64_i32_114 : BitVec 32 := 64#32
  let v187 : BitVec 32 := Scalar.muli v186 c64_i32_114
  v187
def k0_mult14 (i : grid0.Coords) : BitVec 32 :=
  let c24_i32_118 : BitVec 32 := 24#32
  let c0_i32_117 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c13_i32 : BitVec 32 := 13#32
  let v191 : BitVec 32 := Scalar.addi v67 c13_i32
  let c4_i32_116 : BitVec 32 := 4#32
  let v192 : BitVec 32 := Scalar.subi v191 c4_i32_116
  let v193 : BitVec 32 := Scalar.maxsi c0_i32_117 v192
  let v194 : BitVec 32 := Scalar.minsi c24_i32_118 v193
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v195 : BitVec 32 := Scalar.subi v194 v70
  let c64_i32_119 : BitVec 32 := 64#32
  let v196 : BitVec 32 := Scalar.muli v195 c64_i32_119
  v196
def k0_mult15 (i : grid0.Coords) : BitVec 32 :=
  let c24_i32_123 : BitVec 32 := 24#32
  let c0_i32_122 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c14_i32 : BitVec 32 := 14#32
  let v200 : BitVec 32 := Scalar.addi v67 c14_i32
  let c4_i32_121 : BitVec 32 := 4#32
  let v201 : BitVec 32 := Scalar.subi v200 c4_i32_121
  let v202 : BitVec 32 := Scalar.maxsi c0_i32_122 v201
  let v203 : BitVec 32 := Scalar.minsi c24_i32_123 v202
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v204 : BitVec 32 := Scalar.subi v203 v70
  let c64_i32_124 : BitVec 32 := 64#32
  let v205 : BitVec 32 := Scalar.muli v204 c64_i32_124
  v205
def k0_mult16 (i : grid0.Coords) : BitVec 32 :=
  let c24_i32_128 : BitVec 32 := 24#32
  let c0_i32_127 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let c15_i32 : BitVec 32 := 15#32
  let v209 : BitVec 32 := Scalar.addi v67 c15_i32
  let c4_i32_126 : BitVec 32 := 4#32
  let v210 : BitVec 32 := Scalar.subi v209 c4_i32_126
  let v211 : BitVec 32 := Scalar.maxsi c0_i32_127 v210
  let v212 : BitVec 32 := Scalar.minsi c24_i32_128 v211
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v213 : BitVec 32 := Scalar.subi v212 v70
  let c64_i32_129 : BitVec 32 := 64#32
  let v214 : BitVec 32 := Scalar.muli v213 c64_i32_129
  v214
def k0_off1 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v223 : Index := Scalar.indexCast v80
  let c0_133 : Index := 0#32
  ![v223.toNat, 0]
def k0_off2 (i : grid0.Coords) (c0_i32_48 : BitVec 32) : Fin 4 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let v81 : BitVec 32 := Scalar.subi v77 v74
  let c7_i32 : BitVec 32 := 7#32
  let v82 : BitVec 32 := Scalar.addi v81 c7_i32
  let v226 : Index := Scalar.indexCast v82
  let c0_135 : Index := 0#32
  let c0_136 : Index := 0#32
  let c0_137 : Index := 0#32
  ![v226.toNat, 0, 0, 0]
def k0_off3 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v235 : Index := Scalar.indexCast v80
  let c128_140 : Index := 128#32
  ![v235.toNat, 128]
def k0_off4 (i : grid0.Coords) (c0_i32_48 : BitVec 32) : Fin 4 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let v81 : BitVec 32 := Scalar.subi v77 v74
  let c7_i32 : BitVec 32 := 7#32
  let v82 : BitVec 32 := Scalar.addi v81 c7_i32
  let v238 : Index := Scalar.indexCast v82
  let c1 : Index := 1#32
  let c0_142 : Index := 0#32
  let c0_143 : Index := 0#32
  ![v238.toNat, 1, 0, 0]
def k0_off5 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v249 : Index := Scalar.indexCast v80
  let c256_148 : Index := 256#32
  ![v249.toNat, 256]
def k0_off6 (i : grid0.Coords) (c0_i32_48 : BitVec 32) : Fin 4 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let v81 : BitVec 32 := Scalar.subi v77 v74
  let c7_i32 : BitVec 32 := 7#32
  let v82 : BitVec 32 := Scalar.addi v81 c7_i32
  let v252 : Index := Scalar.indexCast v82
  let c2 : Index := 2#32
  let c0_150 : Index := 0#32
  let c0_151 : Index := 0#32
  ![v252.toNat, 2, 0, 0]
def k0_off7 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v271 : Index := Scalar.indexCast v80
  let c384_157 : Index := 384#32
  ![v271.toNat, 384]
def k0_off8 (i : grid0.Coords) (c0_i32_48 : BitVec 32) : Fin 4 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let v81 : BitVec 32 := Scalar.subi v77 v74
  let c7_i32 : BitVec 32 := 7#32
  let v82 : BitVec 32 := Scalar.addi v81 c7_i32
  let v274 : Index := Scalar.indexCast v82
  let c3 : Index := 3#32
  let c0_159 : Index := 0#32
  let c0_160 : Index := 0#32
  ![v274.toNat, 3, 0, 0]
def k0_off9 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v293 : Index := Scalar.indexCast v80
  let c512_167 : Index := 512#32
  ![v293.toNat, 512]
def k0_off10 (i : grid0.Coords) (c0_i32_48 : BitVec 32) : Fin 4 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let v81 : BitVec 32 := Scalar.subi v77 v74
  let c7_i32 : BitVec 32 := 7#32
  let v82 : BitVec 32 := Scalar.addi v81 c7_i32
  let v296 : Index := Scalar.indexCast v82
  let c4 : Index := 4#32
  let c0_169 : Index := 0#32
  let c0_170 : Index := 0#32
  ![v296.toNat, 4, 0, 0]
def k0_off11 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v310 : Index := Scalar.indexCast v80
  let c0_174 : Index := 0#32
  ![v310.toNat, 0]
def k0_off12 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v335 : Index := Scalar.indexCast v80
  let c640_182 : Index := 640#32
  ![v335.toNat, 640]
def k0_off13 (i : grid0.Coords) (c0_i32_48 : BitVec 32) : Fin 4 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let v81 : BitVec 32 := Scalar.subi v77 v74
  let c7_i32 : BitVec 32 := 7#32
  let v82 : BitVec 32 := Scalar.addi v81 c7_i32
  let v338 : Index := Scalar.indexCast v82
  let c5 : Index := 5#32
  let c0_184 : Index := 0#32
  let c0_185 : Index := 0#32
  ![v338.toNat, 5, 0, 0]
def k0_off14 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v357 : Index := Scalar.indexCast v80
  let c768_192 : Index := 768#32
  ![v357.toNat, 768]
def k0_off15 (i : grid0.Coords) (c0_i32_48 : BitVec 32) : Fin 4 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let v81 : BitVec 32 := Scalar.subi v77 v74
  let c7_i32 : BitVec 32 := 7#32
  let v82 : BitVec 32 := Scalar.addi v81 c7_i32
  let v360 : Index := Scalar.indexCast v82
  let c6 : Index := 6#32
  let c0_194 : Index := 0#32
  let c0_195 : Index := 0#32
  ![v360.toNat, 6, 0, 0]
def k0_off16 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v374 : Index := Scalar.indexCast v80
  let c256_199 : Index := 256#32
  ![v374.toNat, 256]
def k0_off17 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v399 : Index := Scalar.indexCast v80
  let c896_207 : Index := 896#32
  ![v399.toNat, 896]
def k0_off18 (i : grid0.Coords) (c0_i32_48 : BitVec 32) : Fin 4 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let v81 : BitVec 32 := Scalar.subi v77 v74
  let c7_i32 : BitVec 32 := 7#32
  let v82 : BitVec 32 := Scalar.addi v81 c7_i32
  let v402 : Index := Scalar.indexCast v82
  let c7 : Index := 7#32
  let c0_209 : Index := 0#32
  let c0_210 : Index := 0#32
  ![v402.toNat, 7, 0, 0]
def k0_off19 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v438 : Index := Scalar.indexCast v80
  let c512_224 : Index := 512#32
  ![v438.toNat, 512]
def k0_off20 (i : grid0.Coords) (c0_i32_48 : BitVec 32) : Fin 2 → Nat :=
  let c24_i32 : BitVec 32 := 24#32
  let c0_i32_50 : BitVec 32 := 0#32
  let arg0 : BitVec 32 := BitVec.ofNat 32 (i 0).val
  let c16_i32 : BitVec 32 := 16#32
  let v48 : BitVec 32 := Scalar.muli arg0 c16_i32
  let c0_i32 : BitVec 32 := 0#32
  let v50 : BitVec 1 := Scalar.cmpi .sgt v48 c0_i32
  let v51 : BitVec 32 := Scalar.extui v50
  let c0_i32_42 : BitVec 32 := 0#32
  let v52 : BitVec 1 := Scalar.cmpi .slt v48 c0_i32_42
  let v53 : BitVec 32 := Scalar.extui v52
  let v54 : BitVec 32 := Scalar.subi v51 v53
  let c32_i32 : BitVec 32 := 32#32
  let c0_i32_43 : BitVec 32 := 0#32
  let v55 : BitVec 1 := Scalar.cmpi .sgt c32_i32 c0_i32_43
  let v56 : BitVec 32 := Scalar.extui v55
  let c0_i32_44 : BitVec 32 := 0#32
  let v57 : BitVec 1 := Scalar.cmpi .slt c32_i32 c0_i32_44
  let v58 : BitVec 32 := Scalar.extui v57
  let v59 : BitVec 32 := Scalar.subi v56 v58
  let v60 : BitVec 1 := Scalar.cmpi .ne v54 v59
  let v61 : BitVec 32 := Scalar.remsi v48 c32_i32
  let c0_i32_45 : BitVec 32 := 0#32
  let v62 : BitVec 1 := Scalar.cmpi .ne v61 c0_i32_45
  let v63 : BitVec 1 := Scalar.andi v60 v62
  let v49 : BitVec 32 := Scalar.divsi v48 c32_i32
  let c1_i32 : BitVec 32 := 1#32
  let v64 : BitVec 32 := Scalar.subi v49 c1_i32
  let v65 : BitVec 32 := Scalar.select v63 v64 v49
  let c32_i32_46 : BitVec 32 := 32#32
  let v66 : BitVec 32 := Scalar.muli v65 c32_i32_46
  let v67 : BitVec 32 := Scalar.subi v48 v66
  let v74 : BitVec 32 := Scalar.addi v67 c0_i32_48
  let c4_i32_49 : BitVec 32 := 4#32
  let v75 : BitVec 32 := Scalar.subi v74 c4_i32_49
  let v76 : BitVec 32 := Scalar.maxsi c0_i32_50 v75
  let v77 : BitVec 32 := Scalar.minsi c24_i32 v76
  let c8_i32 : BitVec 32 := 8#32
  let c0_i32_47 : BitVec 32 := 0#32
  let c4_i32 : BitVec 32 := 4#32
  let v68 : BitVec 32 := Scalar.subi v67 c4_i32
  let v69 : BitVec 32 := Scalar.maxsi c0_i32_47 v68
  let v70 : BitVec 32 := Scalar.minsi c8_i32 v69
  let v78 : BitVec 32 := Scalar.subi v77 v70
  let c64_i32_51 : BitVec 32 := 64#32
  let v79 : BitVec 32 := Scalar.muli v78 c64_i32_51
  let v80 : BitVec 32 := v79
  let v502 : Index := Scalar.indexCast v80
  let c768_252 : Index := 768#32
  ![v502.toNat, 768]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c0_i32_13 : BitVec 32 := 0#32
  let v41 : BitVec 32 := Scalar.addi v40 c0_i32_13
  let c0_i32_14 : BitVec 32 := 0#32
  let c0_i32_15 : BitVec 32 := 0#32
  ![v41.toNat, c0_i32_14.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c1_i32_13 : BitVec 32 := 1#32
  let v41 : BitVec 32 := Scalar.addi v40 c1_i32_13
  let c0_i32_14 : BitVec 32 := 0#32
  let c0_i32_15 : BitVec 32 := 0#32
  ![v41.toNat, c0_i32_14.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c2_i32 : BitVec 32 := 2#32
  let v41 : BitVec 32 := Scalar.addi v40 c2_i32
  let c0_i32_13 : BitVec 32 := 0#32
  let c0_i32_14 : BitVec 32 := 0#32
  ![v41.toNat, c0_i32_13.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c3_i32 : BitVec 32 := 3#32
  let v41 : BitVec 32 := Scalar.addi v40 c3_i32
  let c0_i32_13 : BitVec 32 := 0#32
  let c0_i32_14 : BitVec 32 := 0#32
  ![v41.toNat, c0_i32_13.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c4_i32_13 : BitVec 32 := 4#32
  let v41 : BitVec 32 := Scalar.addi v40 c4_i32_13
  let c0_i32_14 : BitVec 32 := 0#32
  let c0_i32_15 : BitVec 32 := 0#32
  ![v41.toNat, c0_i32_14.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c5_i32 : BitVec 32 := 5#32
  let v41 : BitVec 32 := Scalar.addi v40 c5_i32
  let c0_i32_13 : BitVec 32 := 0#32
  let c0_i32_14 : BitVec 32 := 0#32
  ![v41.toNat, c0_i32_13.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c0_i32_13 : BitVec 32 := 0#32
  let v41 : BitVec 32 := Scalar.addi v40 c0_i32_13
  let c0_i32_14 : BitVec 32 := 0#32
  let c0_i32_15 : BitVec 32 := 0#32
  ![v41.toNat, c0_i32_14.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c1_i32_13 : BitVec 32 := 1#32
  let v41 : BitVec 32 := Scalar.addi v40 c1_i32_13
  let c0_i32_14 : BitVec 32 := 0#32
  let c0_i32_15 : BitVec 32 := 0#32
  ![v41.toNat, c0_i32_14.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c2_i32 : BitVec 32 := 2#32
  let v41 : BitVec 32 := Scalar.addi v40 c2_i32
  let c0_i32_13 : BitVec 32 := 0#32
  let c0_i32_14 : BitVec 32 := 0#32
  ![v41.toNat, c0_i32_13.toNat]

def cc0_transform_10 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c3_i32 : BitVec 32 := 3#32
  let v41 : BitVec 32 := Scalar.addi v40 c3_i32
  let c0_i32_13 : BitVec 32 := 0#32
  let c0_i32_14 : BitVec 32 := 0#32
  ![v41.toNat, c0_i32_13.toNat]

def cc0_transform_11 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c4_i32_13 : BitVec 32 := 4#32
  let v41 : BitVec 32 := Scalar.addi v40 c4_i32_13
  let c0_i32_14 : BitVec 32 := 0#32
  let c0_i32_15 : BitVec 32 := 0#32
  ![v41.toNat, c0_i32_14.toNat]

def cc0_transform_12 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli v17 c32_i32_4
  let v19 : BitVec 32 := Scalar.subi v0 v18
  let c4_i32 : BitVec 32 := 4#32
  let v20 : BitVec 32 := Scalar.subi v19 c4_i32
  let c0_i32_5 : BitVec 32 := 0#32
  let c8_i32 : BitVec 32 := 8#32
  let v21 : BitVec 32 := Scalar.maxsi c0_i32_5 v20
  let v22 : BitVec 32 := Scalar.minsi c8_i32 v21
  let v23 : BitVec 32 := Scalar.addi v18 v22
  let c4_i32_6 : BitVec 32 := 4#32
  let v24 : BitVec 32 := Scalar.divsi v23 c4_i32_6
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c0_i32_9 : BitVec 32 := 0#32
  let v30 : BitVec 1 := Scalar.cmpi .sgt c4_i32_6 c0_i32_9
  let v31 : BitVec 32 := Scalar.extui v30
  let c0_i32_10 : BitVec 32 := 0#32
  let v32 : BitVec 1 := Scalar.cmpi .slt c4_i32_6 c0_i32_10
  let v33 : BitVec 32 := Scalar.extui v32
  let v34 : BitVec 32 := Scalar.subi v31 v33
  let v35 : BitVec 1 := Scalar.cmpi .ne v29 v34
  let v36 : BitVec 32 := Scalar.remsi v23 c4_i32_6
  let c0_i32_11 : BitVec 32 := 0#32
  let v37 : BitVec 1 := Scalar.cmpi .ne v36 c0_i32_11
  let v38 : BitVec 1 := Scalar.andi v35 v37
  let c1_i32_12 : BitVec 32 := 1#32
  let v39 : BitVec 32 := Scalar.subi v24 c1_i32_12
  let v40 : BitVec 32 := Scalar.select v38 v39 v24
  let c5_i32 : BitVec 32 := 5#32
  let v41 : BitVec 32 := Scalar.addi v40 c5_i32
  let c0_i32_13 : BitVec 32 := 0#32
  let c0_i32_14 : BitVec 32 := 0#32
  ![v41.toNat, c0_i32_13.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x8x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AttnRefIdeal.lean ====
abbrev S16384x1024 : Shape := ⟨2, ![16384, 1024]⟩
abbrev S8x8x128x512 : Shape := ⟨4, ![8, 8, 128, 512]⟩
abbrev S8x32x8 : Shape := ⟨3, ![8, 32, 8]⟩
abbrev S_ : Shape := ⟨0, ![]⟩
abbrev S2048 : Shape := ⟨1, ![2048]⟩
abbrev S8x32x1 : Shape := ⟨3, ![8, 32, 1]⟩
abbrev S8x32 : Shape := ⟨2, ![8, 32]⟩
abbrev S256 : Shape := ⟨1, ![256]⟩
abbrev S256x64x16x64 : Shape := ⟨4, ![256, 64, 16, 64]⟩
abbrev S256x65536 : Shape := ⟨2, ![256, 65536]⟩
abbrev S2048x1 : Shape := ⟨2, ![2048, 1]⟩
abbrev S2048x65536 : Shape := ⟨2, ![2048, 65536]⟩
abbrev S256x512x16x64 : Shape := ⟨4, ![256, 512, 16, 64]⟩
abbrev S256x16x64x512 : Shape := ⟨4, ![256, 16, 64, 512]⟩
abbrev S8x524288 : Shape := ⟨2, ![8, 524288]⟩
abbrev S256x1 : Shape := ⟨2, ![256, 1]⟩
abbrev S256x524288 : Shape := ⟨2, ![256, 524288]⟩
abbrev S256x16x64 : Shape := ⟨3, ![256, 16, 64]⟩
abbrev S256x16x64x1 : Shape := ⟨4, ![256, 16, 64, 1]⟩
abbrev S256x16x64x64 : Shape := ⟨4, ![256, 16, 64, 64]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S8x8x128x512, .f32⟩
  | .hbm, ⟨4, _⟩ => ⟨S8x32x8, .i32⟩
  | .hbm, ⟨5, _⟩ => ⟨S_, .i32⟩
  | .hbm, ⟨6, _⟩ => ⟨S8x32x8, .i32⟩
  | .hbm, ⟨7, _⟩ => ⟨S8x32x8, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S8x32x8, .i32⟩
  | .hbm, ⟨12, _⟩ => ⟨S8x32x8, .i32⟩
  | .hbm, ⟨13, _⟩ => ⟨S_, .i32⟩
  | .hbm, ⟨14, _⟩ => ⟨S8x32x8, .i32⟩
  | .hbm, ⟨15, _⟩ => ⟨S8x32x8, .i32⟩
  | .hbm, ⟨16, _⟩ => ⟨S8x32x8, .i32⟩
  | .hbm, ⟨17, _⟩ => ⟨S_, .i32⟩
  | .hbm, ⟨18, _⟩ => ⟨S8x32x8, .i32⟩
  | .hbm, ⟨19, _⟩ => ⟨S8x32x8, .i32⟩
  | .hbm, ⟨20, _⟩ => ⟨S8x32x8, .i32⟩
  | .hbm, ⟨21, _⟩ => ⟨S8x32x8, .i32⟩
  | .hbm, ⟨22, _⟩ => ⟨S8x32x8, .i32⟩
  | .hbm, ⟨23, _⟩ => ⟨S2048, .i32⟩
  | .hbm, ⟨24, _⟩ => ⟨S8x32x8, .i32⟩
  | .hbm, ⟨25, _⟩ => ⟨S8x32x8, .i32⟩
  | .hbm, ⟨26, _⟩ => ⟨S_, .i32⟩
  | .hbm, ⟨27, _⟩ => ⟨S8x32x8, .i32⟩
  | .hbm, ⟨28, _⟩ => ⟨S8x32x8, .i32⟩
  | .hbm, ⟨29, _⟩ => ⟨S8x32x1, .i32⟩
  | .hbm, ⟨30, _⟩ => ⟨S8x32, .i32⟩
  | .hbm, ⟨31, _⟩ => ⟨S256, .i32⟩
  | .hbm, ⟨32, _⟩ => ⟨S16384x1024, .f32⟩
  | .hbm, ⟨33, _⟩ => ⟨S256x64x16x64, .f32⟩
  | .hbm, ⟨34, _⟩ => ⟨S16384x1024, .f32⟩
  | .hbm, ⟨35, _⟩ => ⟨S256x65536, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048x1, .i32⟩
  | .hbm, ⟨44, _⟩ => ⟨S2048x65536, .f32⟩
  | .hbm, ⟨45, _⟩ => ⟨S256x512x16x64, .f32⟩
  | .hbm, ⟨46, _⟩ => ⟨S256x16x64x512, .f32⟩
  | .hbm, ⟨47, _⟩ => ⟨S8x524288, .f32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S256x1, .i32⟩
  | .hbm, ⟨56, _⟩ => ⟨S256x524288, .f32⟩
  | .hbm, ⟨57, _⟩ => ⟨S256x16x64x512, .f32⟩
  | .hbm, ⟨58, _⟩ => ⟨S256x16x64x512, .f32⟩
  | .hbm, ⟨59, _⟩ => ⟨S_, .f32⟩
  | .hbm, ⟨60, _⟩ => ⟨S256x16x64, .f32⟩
  | .hbm, ⟨61, _⟩ => ⟨S_, .f32⟩
  | .hbm, ⟨62, _⟩ => ⟨S256x16x64, .f32⟩
  | .hbm, ⟨63, _⟩ => ⟨S256x16x64, .f32⟩
  | .hbm, ⟨64, _⟩ => ⟨S256x16x64x1, .f32⟩
  | .hbm, ⟨65, _⟩ => ⟨S256x16x64x512, .f32⟩
  | .hbm, ⟨66, _⟩ => ⟨S256x16x64x512, .f32⟩
  | .hbm, ⟨67, _⟩ => ⟨S256x16x64x512, .f32⟩
  | .hbm, ⟨68, _⟩ => ⟨S_, .f32⟩
  | .hbm, ⟨69, _⟩ => ⟨S256x16x64, .f32⟩
  | .hbm, ⟨70, _⟩ => ⟨S256x16x64x1, .f32⟩
  | .hbm, ⟨71, _⟩ => ⟨S256x16x64x512, .f32⟩
  | .hbm, ⟨72, _⟩ => ⟨S256x16x64x512, .f32⟩
  | .hbm, ⟨73, _⟩ => ⟨S16384x1024, .f32⟩
  | .hbm, ⟨74, _⟩ => ⟨S256x65536, .f32⟩
  | .hbm, ⟨75, _⟩ => ⟨S_, .i32⟩
  | .hbm, ⟨76, _⟩ => ⟨S2048, .i32⟩
  | .hbm, ⟨77, _⟩ => ⟨S2048, .i1⟩
  | .hbm, ⟨78, _⟩ => ⟨S_, .i32⟩
  | .hbm, ⟨79, _⟩ => ⟨S2048, .i32⟩
  | .hbm, ⟨80, _⟩ => ⟨S2048, .i32⟩
  | .hbm, ⟨81, _⟩ => ⟨S2048, .i32⟩
  | .hbm, ⟨82, _⟩ => ⟨S2048x1, .i32⟩
  | .hbm, ⟨83, _⟩ => ⟨S2048x65536, .f32⟩
  | .hbm, ⟨84, _⟩ => ⟨S256x512x16x64, .f32⟩
  | .hbm, ⟨85, _⟩ => ⟨S256x16x64x64, .f32⟩
  | .hbm, ⟨86, _⟩ => ⟨S256x64x16x64, .f32⟩
  | .hbm, ⟨87, _⟩ => ⟨S16384x1024, .f32⟩
  | .hbm, ⟨88, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Ffn.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S2048x512 : Shape := ⟨2, ![2048, 512]⟩
abbrev S512x2048 : Shape := ⟨2, ![512, 2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1024x512 : Shape := ⟨2, ![1024, 512]⟩

abbrev nBuf : Space → Nat
  | .hbm => 14
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S1x2048, .f32⟩
  | .hbm, ⟨13, _⟩ => ⟨S16384x2048, .f32⟩
  | .local _ .vmem, ⟨0, _⟩ => ⟨S1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg0 : BitVec 32 := BitVec.ofNat 32 (i 0).val
  let c1024_i32 : BitVec 32 := 1024#32
  let v22 : BitVec 32 := Scalar.muli arg0 c1024_i32
  let c0_i32_10 : BitVec 32 := 0#32
  ![v22.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c16_i32 : BitVec 32 := 16#32
  let v10 : BitVec 1 := Scalar.cmpi .slt v9 c16_i32
  let v11 : BitVec 1 := Scalar.andi v8 v10
  let v12 : BitVec 32 := Scalar.extui v11
  let c0_i32_5 : BitVec 32 := 0#32
  let v13 : BitVec 1 := Scalar.cmpi .ne v12 c0_i32_5
  v13

def k0_off2 (i : grid0.Coords) : Fin 2 → Nat :=
  let arg0 : BitVec 32 := BitVec.ofNat 32 (i 0).val
  let c1_i32_10 : BitVec 32 := 1#32
  let v22 : BitVec 32 := Scalar.addi arg0 c1_i32_10
  let c1024_i32 : BitVec 32 := 1024#32
  let v23 : BitVec 32 := Scalar.muli v22 c1024_i32
  let c0_i32_11 : BitVec 32 := 0#32
  ![v23.toNat, 0]
def k0_cond4 (i : grid0.Coords) : BitVec 1 :=
  let arg1 : BitVec 32 := BitVec.ofNat 32 (i 1).val
  let c0_i32_6 : BitVec 32 := 0#32
  let v14 : BitVec 1 := Scalar.cmpi .sgt arg1 c0_i32_6
  let c10_i32 : BitVec 32 := 10#32
  let v15 : BitVec 1 := Scalar.cmpi .slt arg1 c10_i32
  let v16 : BitVec 1 := Scalar.andi v14 v15
  let v17 : BitVec 32 := Scalar.extui v16
  let c0_i32_7 : BitVec 32 := 0#32
  let v18 : BitVec 1 := Scalar.cmpi .ne v17 c0_i32_7
  v18

def k0_cond5 (i : grid0.Coords) : BitVec 1 :=
  let arg1 : BitVec 32 := BitVec.ofNat 32 (i 1).val
  let c10_i32_8 : BitVec 32 := 10#32
  let v19 : BitVec 1 := Scalar.cmpi .eq arg1 c10_i32_8
  let v20 : BitVec 32 := Scalar.extui v19
  let c0_i32_9 : BitVec 32 := 0#32
  let v21 : BitVec 1 := Scalar.cmpi .ne v20 c0_i32_9
  v21

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S5632x2048 : Shape := ⟨2, ![5632, 2048]⟩
abbrev S16384x5632 : Shape := ⟨2, ![16384, 5632]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Mid.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S2048x512 : Shape := ⟨2, ![2048, 512]⟩
abbrev S512x2048 : Shape := ⟨2, ![512, 2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1024x512 : Shape := ⟨2, ![1024, 512]⟩

abbrev nBuf : Space → Nat
  | .hbm => 14
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S16384x2048, .f32⟩
  | .hbm, ⟨13, _⟩ => ⟨S16384x2048, .bf16⟩
  | .local _ .vmem, ⟨0, _⟩ => ⟨S1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg0 : BitVec 32 := BitVec.ofNat 32 (i 0).val
  let c1024_i32 : BitVec 32 := 1024#32
  let v22 : BitVec 32 := Scalar.muli arg0 c1024_i32
  let c0_i32_10 : BitVec 32 := 0#32
  ![v22.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c16_i32 : BitVec 32 := 16#32
  let v10 : BitVec 1 := Scalar.cmpi .slt v9 c16_i32
  let v11 : BitVec 1 := Scalar.andi v8 v10
  let v12 : BitVec 32 := Scalar.extui v11
  let c0_i32_5 : BitVec 32 := 0#32
  let v13 : BitVec 1 := Scalar.cmpi .ne v12 c0_i32_5
  v13

def k0_off2 (i : grid0.Coords) : Fin 2 → Nat :=
  let arg0 : BitVec 32 := BitVec.ofNat 32 (i 0).val
  let c1_i32_10 : BitVec 32 := 1#32
  let v22 : BitVec 32 := Scalar.addi arg0 c1_i32_10
  let c1024_i32 : BitVec 32 := 1024#32
  let v23 : BitVec 32 := Scalar.muli v22 c1024_i32
  let c0_i32_11 : BitVec 32 := 0#32
  ![v23.toNat, 0]
def k0_cond4 (i : grid0.Coords) : BitVec 1 :=
  let arg1 : BitVec 32 := BitVec.ofNat 32 (i 1).val
  let c0_i32_6 : BitVec 32 := 0#32
  let v14 : BitVec 1 := Scalar.cmpi .sgt arg1 c0_i32_6
  let c10_i32 : BitVec 32 := 10#32
  let v15 : BitVec 1 := Scalar.cmpi .slt arg1 c10_i32
  let v16 : BitVec 1 := Scalar.andi v14 v15
  let v17 : BitVec 32 := Scalar.extui v16
  let c0_i32_7 : BitVec 32 := 0#32
  let v18 : BitVec 1 := Scalar.cmpi .ne v17 c0_i32_7
  v18

def k0_cond5 (i : grid0.Coords) : BitVec 1 :=
  let arg1 : BitVec 32 := BitVec.ofNat 32 (i 1).val
  let c10_i32_8 : BitVec 32 := 10#32
  let v19 : BitVec 1 := Scalar.cmpi .eq arg1 c10_i32_8
  let v20 : BitVec 32 := Scalar.extui v19
  let c0_i32_9 : BitVec 32 := 0#32
  let v21 : BitVec 1 := Scalar.cmpi .ne v20 c0_i32_9
  v21

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MidRefIdeal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S5632x2048 : Shape := ⟨2, ![5632, 2048]⟩
abbrev S16384x5632 : Shape := ⟨2, ![16384, 5632]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Merge.lean ====
abbrev S16384x1024 : Shape := ⟨2, ![16384, 1024]⟩
abbrev S16384x4096 : Shape := ⟨2, ![16384, 4096]⟩
abbrev S16384x2048 : Shape := ⟨2, ![16384, 2048]⟩
abbrev S1x4x256x256 : Shape := ⟨4, ![1, 4, 256, 256]⟩
abbrev S1x1024 : Shape := ⟨2, ![1, 1024]⟩
abbrev S1x1024x2048 : Shape := ⟨3, ![1, 1024, 2048]⟩
abbrev S1x2048x2048 : Shape := ⟨3, ![1, 2048, 2048]⟩
abbrev S4x256x256 : Shape := ⟨3, ![4, 256, 256]⟩
abbrev S1024x2048 : Shape := ⟨2, ![1024, 2048]⟩
abbrev S2048x2048 : Shape := ⟨2, ![2048, 2048]⟩
abbrev S512x1024 : Shape := ⟨2, ![512, 1024]⟩
abbrev S8x1024 : Shape := ⟨2, ![8, 1024]⟩
abbrev S512x2048 : Shape := ⟨2, ![512, 2048]⟩
abbrev S536x1024 : Shape := ⟨2, ![536, 1024]⟩
abbrev S536x256 : Shape := ⟨2, ![536, 256]⟩
abbrev S1024x256 : Shape := ⟨2, ![1024, 256]⟩
abbrev S512x256 : Shape := ⟨2, ![512, 256]⟩
abbrev S144x256 : Shape := ⟨2, ![144, 256]⟩
abbrev S128x256 : Shape := ⟨2, ![128, 256]⟩
abbrev S128x1 : Shape := ⟨2, ![128, 1]⟩
abbrev S1x256x256 : Shape := ⟨3, ![1, 256, 256]⟩
abbrev S256x256 : Shape := ⟨2, ![256, 256]⟩
abbrev S1x256 : Shape := ⟨2, ![1, 256]⟩
abbrev S256x1024 : Shape := ⟨2, ![256, 1024]⟩
abbrev S512x512 : Shape := ⟨2, ![512, 512]⟩
abbrev S2048x512 : Shape := ⟨2, ![2048, 512]⟩

abbrev nBuf : Space → Nat
  | .hbm => 18
  | .vmem => 26
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x4096, .bf16⟩
  | .hbm, ⟨3, _⟩ => ⟨S16384x2048, .f32⟩
  | .hbm, ⟨4, _⟩ => ⟨S1x4x256x256, .f32⟩
  | .hbm, ⟨5, _⟩ => ⟨S1x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S4x256x256, .f32⟩
  | .hbm, ⟨10, _⟩ => ⟨S4x256x256, .bf16⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S2048x2048, .f32⟩
  | .hbm, ⟨16, _⟩ => ⟨S2048x2048, .bf16⟩
  | .hbm, ⟨17, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S4x256x256, .bf16⟩
  | .local _ .vmem, ⟨15, _⟩ => ⟨S1x1024, .f32⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S512x2048, .f32⟩
  | .local _ .vmem, ⟨20, _⟩ => ⟨S512x2048, .f32⟩
  | .local _ .vmem, ⟨21, _⟩ => ⟨S536x1024, .f32⟩
  | .local _ .vmem, ⟨22, _⟩ => ⟨S536x256, .f32⟩
  | .local _ .vmem, ⟨23, _⟩ => ⟨S536x256, .f32⟩
  | .local _ .vmem, ⟨24, _⟩ => ⟨S512x1024, .bf16⟩
  | .local _ .vmem, ⟨25, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x1024 : Shape := ⟨2, ![16384, 1024]⟩
abbrev S16384x4096 : Shape := ⟨2, ![16384, 4096]⟩
abbrev S16384x2048 : Shape := ⟨2, ![16384, 2048]⟩
abbrev S1x4x256x256 : Shape := ⟨4, ![1, 4, 256, 256]⟩
abbrev S1x1024 : Shape := ⟨2, ![1, 1024]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S8x2048x1024 : Shape := ⟨3, ![8, 2048, 1024]⟩
abbrev S1x2048x1 : Shape := ⟨3, ![1, 2048, 1]⟩
abbrev S8x2048x256 : Shape := ⟨3, ![8, 2048, 256]⟩
abbrev S_ : Shape := ⟨0, ![]⟩
abbrev S8x2050x256 : Shape := ⟨3, ![8, 2050, 256]⟩
abbrev S1x1x256x256 : Shape := ⟨4, ![1, 1, 256, 256]⟩
abbrev S256x256 : Shape := ⟨2, ![256, 256]⟩
abbrev S8x2052x256 : Shape := ⟨3, ![8, 2052, 256]⟩
abbrev S8x2056x256 : Shape := ⟨3, ![8, 2056, 256]⟩
abbrev S8x2064x256 : Shape := ⟨3, ![8, 2064, 256]⟩
abbrev S1024 : Shape := ⟨1, ![1024]⟩
abbrev S1x1x1024 : Shape := ⟨3, ![1, 1, 1024]⟩
abbrev S2048x2048 : Shape := ⟨2, ![2048, 2048]⟩

abbrev nBuf : Space → Nat
  | .hbm => 195
  | .vmem => 0
  | .smem => 0
  | _ => 0

abbrev hbmTy0_0 (i : Nat) : BufTy := match i % 128 with
  | 0 => ⟨S16384x1024, .bf16⟩
  | 1 => ⟨S16384x1024, .f32⟩
  | 2 => ⟨S16384x4096, .bf16⟩
  | 3 => ⟨S16384x2048, .f32⟩
  | 4 => ⟨S1x4x256x256, .f32⟩
  | 5 => ⟨S1x1024, .f32⟩
  | 6 => ⟨S1x1024x2048, .f32⟩
  | 7 => ⟨S1x1024x2048, .f32⟩
  | 8 => ⟨S1x2048x2048, .f32⟩
  | 9 => ⟨S16384x1024, .f32⟩
  | 10 => ⟨S1024x2048, .f32⟩
  | 11 => ⟨S16384x2048, .f32⟩
  | 12 => ⟨S8x2048x1024, .f32⟩
  | 13 => ⟨S1x2048x1, .i32⟩
  | 14 => ⟨S8x2048x256, .f32⟩
  | 15 => ⟨S_, .i32⟩
  | 16 => ⟨S_, .f32⟩
  | 17 => ⟨S8x2050x256, .f32⟩
  | 18 => ⟨S8x2048x256, .f32⟩
  | 19 => ⟨S_, .f32⟩
  | 20 => ⟨S8x2048x256, .f32⟩
  | 21 => ⟨S8x2048x256, .f32⟩
  | 22 => ⟨S8x2048x256, .f32⟩
  | 23 => ⟨S8x2048x256, .f32⟩
  | 24 => ⟨S_, .i32⟩
  | 25 => ⟨S1x2048x1, .i32⟩
  | 26 => ⟨S1x2048x1, .i32⟩
  | 27 => ⟨S_, .i32⟩
  | 28 => ⟨S1x2048x1, .i32⟩
  | 29 => ⟨S1x2048x1, .i32⟩
  | 30 => ⟨S_, .i32⟩
  | 31 => ⟨S1x2048x1, .i32⟩
  | 32 => ⟨S1x2048x1, .i32⟩
  | 33 => ⟨S_, .i32⟩
  | 34 => ⟨S1x2048x1, .i32⟩
  | 35 => ⟨S1x2048x1, .i32⟩
  | 36 => ⟨S1x2048x1, .i32⟩
  | 37 => ⟨S1x2048x1, .f32⟩
  | 38 => ⟨S8x2048x256, .f32⟩
  | 39 => ⟨S8x2048x256, .f32⟩
  | 40 => ⟨S8x2048x256, .f32⟩
  | 41 => ⟨S1x1x256x256, .f32⟩
  | 42 => ⟨S256x256, .f32⟩
  | 43 => ⟨S8x2048x256, .f32⟩
  | 44 => ⟨S8x2048x256, .f32⟩
  | 45 => ⟨S_, .i32⟩
  | 46 => ⟨S_, .f32⟩
  | 47 => ⟨S8x2052x256, .f32⟩
  | 48 => ⟨S8x2048x256, .f32⟩
  | 49 => ⟨S_, .f32⟩
  | 50 => ⟨S8x2048x256, .f32⟩
  | 51 => ⟨S8x2048x256, .f32⟩
  | 52 => ⟨S8x2048x256, .f32⟩
  | 53 => ⟨S8x2048x256, .f32⟩
  | 54 => ⟨S8x2048x256, .f32⟩
  | 55 => ⟨S8x2048x256, .f32⟩
  | 56 => ⟨S8x2048x256, .f32⟩
  | 57 => ⟨S8x2048x256, .f32⟩
  | 58 => ⟨S_, .i32⟩
  | 59 => ⟨S1x2048x1, .i32⟩
  | 60 => ⟨S1x2048x1, .i32⟩
  | 61 => ⟨S_, .i32⟩
  | 62 => ⟨S1x2048x1, .i32⟩
  | 63 => ⟨S1x2048x1, .i32⟩
  | 64 => ⟨S_, .i32⟩
  | 65 => ⟨S1x2048x1, .i32⟩
  | 66 => ⟨S1x2048x1, .i32⟩
  | 67 => ⟨S_, .i32⟩
  | 68 => ⟨S1x2048x1, .i32⟩
  | 69 => ⟨S1x2048x1, .i32⟩
  | 70 => ⟨S1x2048x1, .i32⟩
  | 71 => ⟨S1x2048x1, .f32⟩
  | 72 => ⟨S8x2048x256, .f32⟩
  | 73 => ⟨S8x2048x256, .f32⟩
  | 74 => ⟨S8x2048x256, .f32⟩
  | 75 => ⟨S1x1x256x256, .f32⟩
  | 76 => ⟨S256x256, .f32⟩
  | 77 => ⟨S8x2048x256, .f32⟩
  | 78 => ⟨S8x2048x256, .f32⟩
  | 79 => ⟨S_, .i32⟩
  | 80 => ⟨S_, .f32⟩
  | 81 => ⟨S8x2056x256, .f32⟩
  | 82 => ⟨S8x2048x256, .f32⟩
  | 83 => ⟨S_, .f32⟩
  | 84 => ⟨S8x2048x256, .f32⟩
  | 85 => ⟨S8x2048x256, .f32⟩
  | 86 => ⟨S8x2048x256, .f32⟩
  | 87 => ⟨S8x2048x256, .f32⟩
  | 88 => ⟨S8x2048x256, .f32⟩
  | 89 => ⟨S8x2048x256, .f32⟩
  | 90 => ⟨S8x2048x256, .f32⟩
  | 91 => ⟨S8x2048x256, .f32⟩
  | 92 => ⟨S8x2048x256, .f32⟩
  | 93 => ⟨S8x2048x256, .f32⟩
  | 94 => ⟨S8x2048x256, .f32⟩
  | 95 => ⟨S8x2048x256, .f32⟩
  | 96 => ⟨S8x2048x256, .f32⟩
  | 97 => ⟨S8x2048x256, .f32⟩
  | 98 => ⟨S8x2048x256, .f32⟩
  | 99 => ⟨S8x2048x256, .f32⟩
  | 100 => ⟨S_, .i32⟩
  | 101 => ⟨S1x2048x1, .i32⟩
  | 102 => ⟨S1x2048x1, .i32⟩
  | 103 => ⟨S_, .i32⟩
  | 104 => ⟨S1x2048x1, .i32⟩
  | 105 => ⟨S1x2048x1, .i32⟩
  | 106 => ⟨S_, .i32⟩
  | 107 => ⟨S1x2048x1, .i32⟩
  | 108 => ⟨S1x2048x1, .i32⟩
  | 109 => ⟨S_, .i32⟩
  | 110 => ⟨S1x2048x1, .i32⟩
  | 111 => ⟨S1x2048x1, .i32⟩
  | 112 => ⟨S1x2048x1, .i32⟩
  | 113 => ⟨S1x2048x1, .f32⟩
  | 114 => ⟨S8x2048x256, .f32⟩
  | 115 => ⟨S8x2048x256, .f32⟩
  | 116 => ⟨S8x2048x256, .f32⟩
  | 117 => ⟨S1x1x256x256, .f32⟩
  | 118 => ⟨S256x256, .f32⟩
  | 119 => ⟨S8x2048x256, .f32⟩
  | 120 => ⟨S8x2048x256, .f32⟩
  | 121 => ⟨S_, .i32⟩
  | 122 => ⟨S_, .f32⟩
  | 123 => ⟨S8x2064x256, .f32⟩
  | 124 => ⟨S8x2048x256, .f32⟩
  | 125 => ⟨S_, .f32⟩
  | 126 => ⟨S8x2048x256, .f32⟩
  | 127 => ⟨S8x2048x256, .f32⟩
  | _ => ⟨S16384x1024, .bf16⟩

abbrev hbmTy0_1 (i : Nat) : BufTy := match i % 128 with
  | 0 => ⟨S8x2048x256, .f32⟩
  | 1 => ⟨S8x2048x256, .f32⟩
  | 2 => ⟨S8x2048x256, .f32⟩
  | 3 => ⟨S8x2048x256, .f32⟩
  | 4 => ⟨S8x2048x256, .f32⟩
  | 5 => ⟨S8x2048x256, .f32⟩
  | 6 => ⟨S8x2048x256, .f32⟩
  | 7 => ⟨S8x2048x256, .f32⟩
  | 8 => ⟨S8x2048x256, .f32⟩
  | 9 => ⟨S8x2048x256, .f32⟩
  | 10 => ⟨S8x2048x256, .f32⟩
  | 11 => ⟨S8x2048x256, .f32⟩
  | 12 => ⟨S8x2048x256, .f32⟩
  | 13 => ⟨S8x2048x256, .f32⟩
  | 14 => ⟨S8x2048x256, .f32⟩
  | 15 => ⟨S8x2048x256, .f32⟩
  | 16 => ⟨S8x2048x256, .f32⟩
  | 17 => ⟨S8x2048x256, .f32⟩
  | 18 => ⟨S8x2048x256, .f32⟩
  | 19 => ⟨S8x2048x256, .f32⟩
  | 20 => ⟨S8x2048x256, .f32⟩
  | 21 => ⟨S8x2048x256, .f32⟩
  | 22 => ⟨S8x2048x256, .f32⟩
  | 23 => ⟨S8x2048x256, .f32⟩
  | 24 => ⟨S8x2048x256, .f32⟩
  | 25 => ⟨S8x2048x256, .f32⟩
  | 26 => ⟨S8x2048x256, .f32⟩
  | 27 => ⟨S8x2048x256, .f32⟩
  | 28 => ⟨S8x2048x256, .f32⟩
  | 29 => ⟨S8x2048x256, .f32⟩
  | 30 => ⟨S_, .i32⟩
  | 31 => ⟨S1x2048x1, .i32⟩
  | 32 => ⟨S1x2048x1, .i32⟩
  | 33 => ⟨S_, .i32⟩
  | 34 => ⟨S1x2048x1, .i32⟩
  | 35 => ⟨S1x2048x1, .i32⟩
  | 36 => ⟨S_, .i32⟩
  | 37 => ⟨S1x2048x1, .i32⟩
  | 38 => ⟨S1x2048x1, .i32⟩
  | 39 => ⟨S_, .i32⟩
  | 40 => ⟨S1x2048x1, .i32⟩
  | 41 => ⟨S1x2048x1, .i32⟩
  | 42 => ⟨S1x2048x1, .i32⟩
  | 43 => ⟨S1x2048x1, .f32⟩
  | 44 => ⟨S8x2048x256, .f32⟩
  | 45 => ⟨S8x2048x256, .f32⟩
  | 46 => ⟨S8x2048x256, .f32⟩
  | 47 => ⟨S1x1x256x256, .f32⟩
  | 48 => ⟨S256x256, .f32⟩
  | 49 => ⟨S8x2048x256, .f32⟩
  | 50 => ⟨S8x2048x1024, .f32⟩
  | 51 => ⟨S1024, .f32⟩
  | 52 => ⟨S1x1x1024, .f32⟩
  | 53 => ⟨S8x2048x1024, .f32⟩
  | 54 => ⟨S8x2048x1024, .f32⟩
  | 55 => ⟨S16384x1024, .f32⟩
  | 56 => ⟨S1024x2048, .f32⟩
  | 57 => ⟨S16384x2048, .f32⟩
  | 58 => ⟨S16384x4096, .f32⟩
  | 59 => ⟨S16384x2048, .f32⟩
  | 60 => ⟨S16384x2048, .f32⟩
  | 61 => ⟨S16384x2048, .f32⟩
  | 62 => ⟨S16384x2048, .f32⟩
  | 63 => ⟨S16384x2048, .f32⟩
  | 64 => ⟨S2048x2048, .f32⟩
  | 65 => ⟨S16384x2048, .f32⟩
  | 66 => ⟨S16384x2048, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_call2_v0 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_c_14 : Ref sig .tc := ⟨.hbm, 106, rfl⟩
abbrev main_v78 : Ref sig .tc := ⟨.hbm, 107, rfl⟩
abbrev main_v79 : Ref sig .tc := ⟨.hbm, 108, rfl⟩
abbrev main_c_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_16 : Ref sig .tc := ⟨.hbm, 121, rfl⟩
abbrev main_call3_v0 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_c_18 : Ref sig .tc := ⟨.hbm, 158, rfl⟩
abbrev main_v125 : Ref sig .tc := ⟨.hbm, 159, rfl⟩
abbrev main_v126 : Ref sig .tc := ⟨.hbm, 160, rfl⟩
abbrev main_c_19 : Ref sig .tc := ⟨.hbm, 161, rfl⟩
abbrev main_v127 : Ref sig .tc := ⟨.hbm, 162, rfl⟩
abbrev main_v128 : Ref sig .tc := ⟨.hbm, 163, rfl⟩
abbrev main_c_20 : Ref sig .tc := ⟨.hbm, 164, rfl⟩
abbrev main_v129 : Ref sig .tc := ⟨.hbm, 165, rfl⟩
abbrev main_v130 : Ref sig .tc := ⟨.hbm, 166, rfl⟩
abbrev main_c_21 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩

abbrev nD : Nat := 1
abbrev τ : Topo := Topo.v7x

variable {F : FTy → Type} [FloatOps F]
-- ==== Proof.HeadsValue.lean ====
/- What the head projection computes over the extended reals: the kernel's four results are four groups of 1024 columns
   of the reference's product, the first scaled by one eighth. -/
module

public import proofs.«01_k».proof.Proof.Gen.HeadsIdeal.Value
public import proofs.«01_k».proof.Proof.Gen.HeadsRefIdeal.Run
public import Idealize.ShloMosaic.Lib.Pipeline.ValueKit
public import Idealize.ShloMosaic.Lib.Pointwise

@[expose] public section

set_option maxRecDepth 16384

noncomputable section

namespace Cert.HeadsIdeal.Hand

open Cert.HeadsIdeal Cert.HeadsIdeal.Gen Idealize.ShloMosaic Idealize.ShloMosaic.TcCoe Idealize.SL.Sem
open Idealize.ShloMosaic.Pipeline (Dat)

variable (m : (ℓ : Loc nD τ sig) → Buf (Elt Ideal) ℓ)

/-- The reference's product of the normalized rows with the whole input weight. -/
abbrev PROD (U : FVec Ideal Cert.HeadsRefIdeal.S16384x2048 .bf16) (Wt : FVec Ideal Cert.HeadsRefIdeal.S1x2048x8192 .f32) :
    FVec Ideal Cert.HeadsRefIdeal.S16384x8192 .f32 :=
  Host.dotGeneral Cert.HeadsRefIdeal.dot_S16384x2048_S2048x8192_S16384x8192_1_0_0_1_n_n none
    (extf .f32 U Cert.HeadsRefIdeal.Gen.bitsLt_bf16_f32)
    (shapeCast Cert.HeadsRefIdeal.S2048x8192 Wt Cert.HeadsRefIdeal.Gen.shapeCasts_S1x2048x8192_S2048x8192)

/-- The reference's queries: the first 1024 columns, scaled. -/
abbrev REFq (U : FVec Ideal Cert.HeadsRefIdeal.S16384x2048 .bf16) (Wt : FVec Ideal Cert.HeadsRefIdeal.S1x2048x8192 .f32) : FVec Ideal Cert.HeadsRefIdeal.S16384x1024 .bf16 :=
  truncf .bf16 (mulf (extractStridedSlice Cert.HeadsRefIdeal.S16384x1024 ![0, 0] (PROD U Wt) Cert.HeadsRefIdeal.Gen.slices_S16384x8192_S16384x1024_0_0)
    (broadcastInDim Cert.HeadsRefIdeal.S16384x1024 ![] Cert.HeadsRefIdeal.Gen.bcast_S_S16384x1024 (constant Cert.HeadsRefIdeal.S_ .f32 0x3E000000#32))) Cert.HeadsRefIdeal.Gen.bitsLt_bf16_f32

/-- The reference's keys: the second 1024 columns. -/
abbrev REFk (U : FVec Ideal Cert.HeadsRefIdeal.S16384x2048 .bf16) (Wt : FVec Ideal Cert.HeadsRefIdeal.S1x2048x8192 .f32) : FVec Ideal Cert.HeadsRefIdeal.S16384x1024 .bf16 :=
  truncf .bf16 (extractStridedSlice Cert.HeadsRefIdeal.S16384x1024 ![0, 1024] (PROD U Wt) Cert.HeadsRefIdeal.Gen.slices_S16384x8192_S16384x1024_0_1024) Cert.HeadsRefIdeal.Gen.bitsLt_bf16_f32

/-- The reference's values: the third 1024 columns. -/
abbrev REFv (U : FVec Ideal Cert.HeadsRefIdeal.S16384x2048 .bf16) (Wt : FVec Ideal Cert.HeadsRefIdeal.S1x2048x8192 .f32) : FVec Ideal Cert.HeadsRefIdeal.S16384x1024 .bf16 :=
  truncf .bf16 (extractStridedSlice Cert.HeadsRefIdeal.S16384x1024 ![0, 2048] (PROD U Wt) Cert.HeadsRefIdeal.Gen.slices_S16384x8192_S16384x1024_0_2048) Cert.HeadsRefIdeal.Gen.bitsLt_bf16_f32

/-- The reference's pooling rows: the fourth 1024 columns. -/
abbrev REFz (U : FVec Ideal Cert.HeadsRefIdeal.S16384x2048 .bf16) (Wt : FVec Ideal Cert.HeadsRefIdeal.S1x2048x8192 .f32) : FVec Ideal Cert.HeadsRefIdeal.S16384x1024 .f32 :=
  extractStridedSlice Cert.HeadsRefIdeal.S16384x1024 ![0, 3072] (PROD U Wt) Cert.HeadsRefIdeal.Gen.slices_S16384x8192_S16384x1024_0_3072

/-- Each window's block index at a grid point: the rows move with the point, the columns of the weight stay in its
    first half. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The queries after the run are the reference's. -/
theorem final_q (c : Dev nD) : (dats (F := Ideal) m 0 c).arrAt 2 (cfgs 0).N
    = REFq (m ((c : Thread nD τ).loc main_arg0)) (m ((c : Thread nD τ).loc main_arg1)) := by
  refine (dats m 0 c).arrAt_eq_of_covers 2 _ (by decide +kernel) fun t _ y => ?_
  blk_simp; rw [after0_2]; frame_out
  pointwise [k0_pay1, REFq, PROD]; blk_point [iblk, V, idx t]

/-- The keys after the run are the reference's. -/
theorem final_k (c : Dev nD) : (dats (F := Ideal) m 0 c).arrAt 3 (cfgs 0).N
    = REFk (m ((c : Thread nD τ).loc main_arg0)) (m ((c : Thread nD τ).loc main_arg1)) := by
  refine (dats m 0 c).arrAt_eq_of_covers 3 _ (by decide +kernel) fun t _ y => ?_
  blk_simp; rw [after0_3]; frame_out
  pointwise [k0_pay2, REFk, PROD]; blk_point [iblk, V, idx t]

/-- The values after the run are the reference's. -/
theorem final_v (c : Dev nD) : (dats (F := Ideal) m 0 c).arrAt 4 (cfgs 0).N
    = REFv (m ((c : Thread nD τ).loc main_arg0)) (m ((c : Thread nD τ).loc main_arg1)) := by
  refine (dats m 0 c).arrAt_eq_of_covers 4 _ (by decide +kernel) fun t _ y => ?_
  blk_simp; rw [after0_4]; frame_out
  pointwise [k0_pay3, REFv, PROD]; blk_point [iblk, V, idx t]

/-- The pooling rows after the run are the reference's. -/
theorem final_z (c : Dev nD) : (dats (F := Ideal) m 0 c).arrAt 5 (cfgs 0).N
    = REFz (m ((c : Thread nD τ).loc main_arg0)) (m ((c : Thread nD τ).loc main_arg1)) := by
  refine (dats m 0 c).arrAt_eq_of_covers 5 _ (by decide +kernel) fun t _ y => ?_
  blk_simp; rw [after0_5]; frame_out
  pointwise [k0_pay4, REFz, PROD]; blk_point [iblk, V, idx t]

end Cert.HeadsIdeal.Hand

end
-- ==== Proof.HeadsClaim.lean ====
/- The five claims about the head projection: both programs' and the reference's frames, the idealized text, and the value. -/
module

public import proofs.«01_k».proof.Defs
public import proofs.«01_k».proof.Proof.Gen.Heads.Frame
public import proofs.«01_k».proof.Proof.Gen.HeadsRefIdeal.Run
public import proofs.«01_k».proof.Proof.HeadsValue
public import Idealize.ShloMosaic.Lib.Claim

@[expose] public section

noncomputable section

namespace Cert.HeadsClaim

open Idealize.ShloMosaic Idealize.ShloMosaic.TcCoe Idealize.SL.Sem

theorem frame_kernel : Cert.quiescent_Heads := fun m g _ => Cert.Heads.Gen.frame m g

theorem frame_ideal : Cert.quiescent_HeadsIdeal := fun m g _ => Cert.HeadsIdeal.Gen.frame m g

/-- The reference is a line of host operations and declares no semaphore. -/
theorem frame_reference : Cert.quiescent_HeadsRefIdeal := fun m g _ =>
  (θ_run Cert.HeadsRefIdeal.defs _ _).mono (fun r h => ⟨fun c => (h c).2.2.2.2,
      Idealize.ShloMosaic.sem_eq_zero_of_no_sems (by decide) r.2⟩)
    (Cert.HeadsRefIdeal.Value.run (F := Ideal) m g)

theorem preserves : Cert.preserves_Heads_HeadsIdeal := trivial

theorem algebraic : Cert.algebraic_HeadsIdeal_HeadsRefIdeal := by
  pair_intro
  · run_from Cert.HeadsIdeal.Value.run_blocks m g
  · run_from Cert.HeadsRefIdeal.Value.run m' g'
    · exact (Cert.HeadsIdeal.Hand.final_q m c).symm
    · exact (Cert.HeadsIdeal.Hand.final_k m c).symm
    · exact (Cert.HeadsIdeal.Hand.final_v m c).symm
    · exact (Cert.HeadsIdeal.Hand.final_z m c).symm

end Cert.HeadsClaim

end
-- ==== Proof.Consts.lean ====
/- Scalar facts over the extended reals that the value proofs share: the constant one half, and the two spellings of
   the logistic function. -/
module

public import Idealize.ShloMosaic.PureOps.Ideal.Laws
public import Idealize.ShloMosaic.Lib.IdealHost

@[expose] public section

noncomputable section

namespace Cert.Scalars

open Idealize.ShloMosaic

/-- The f32 pattern of one half is the real one half. -/
theorem half : Ideal.ofBits .f32 0x3F000000#32 = (((1 : ℝ) / 2 : ℝ) : EReal) := by
  simp [Ideal.ofBits, Ideal.ieee, -EReal.coe_mul]; norm_num

/-- Over the reals, half the hyperbolic tangent at half the argument, plus a half, is the logistic function. -/
theorem real_logistic (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; ring_nf
  have h2 : Real.exp (1 / 2 * r) * Real.exp (-(1 / 2 * r)) = 1 := by
    rw [← Real.exp_add]; simp
  have hp := Real.exp_pos (1 / 2 * r)
  have hn := Real.exp_pos (-(1 / 2 * r))
  rw [Real.tanh_eq_sinh_div_cosh, Real.sinh_eq, Real.cosh_eq, h1]
  generalize Real.exp (1 / 2 * r) = a at *
  generalize Real.exp (-(1 / 2 * r)) = b at *
  have hd : a + b ≠ 0 := by positivity
  have he : 1 + b * b ≠ 0 := by positivity
  field_simp
  linear_combination (2 * b) * h2

/-- The kernel's gate is the logistic function, at every extended real. -/
theorem gate_eq (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half]
  change _ = Ideal.logistic x
  induction x with
  | bot =>
    rw [EReal.coe_mul_bot_of_pos (by norm_num), Ideal.tanh_bot, Ideal.logistic_bot,
      show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top]
    norm_cast; norm_num
  | coe r =>
    rw [← EReal.coe_mul, Ideal.tanh_coe, Ideal.logistic_coe, ← EReal.coe_mul, ← EReal.coe_add, real_logistic]

end Cert.Scalars

end
-- ==== Proof.GatesValue.lean ====
/- What the gate projection computes over the extended reals: the kernel's `0.5 · tanh (0.5 · x) + 0.5` of a projected
   value is the reference's `1 / (1 + exp (-x))`, and the kernel's four column stores per grid point are the four
   thousand and ninety-six gate columns of the reference's product. -/
module

public import proofs.«01_k».proof.Proof.Gen.GatesIdeal.Value
public import proofs.«01_k».proof.Proof.Gen.GatesRefIdeal.Run
public import Idealize.ShloMosaic.Lib.Pipeline.ValueKit
public import Idealize.ShloMosaic.Lib.Pointwise
public import proofs.«01_k».proof.Proof.Consts

@[expose] public section

set_option maxRecDepth 16384

noncomputable section

namespace Cert.GatesIdeal.Hand

open Cert.GatesIdeal Cert.GatesIdeal.Gen Idealize.ShloMosaic Idealize.ShloMosaic.TcCoe Idealize.SL.Sem
open Idealize.ShloMosaic.Pipeline (Dat)

variable (m : (ℓ : Loc nD τ sig) → Buf (Elt Ideal) ℓ)

/-- The reference's result as one function of its two arguments. -/
abbrev REF (U : FVec Ideal Cert.GatesRefIdeal.S16384x2048 .bf16) (Wt : FVec Ideal Cert.GatesRefIdeal.S1x2048x8192 .f32) :
    FVec Ideal Cert.GatesRefIdeal.S16384x4096 .bf16 :=
  truncf .bf16 (Host.divf
    (broadcastInDim Cert.GatesRefIdeal.S16384x4096 ![] Cert.GatesRefIdeal.Gen.bcast_S_S16384x4096 (constant Cert.GatesRefIdeal.S_ .f32 0x3F800000#32))
    (addf (broadcastInDim Cert.GatesRefIdeal.S16384x4096 ![] Cert.GatesRefIdeal.Gen.bcast_S_S16384x4096 (constant Cert.GatesRefIdeal.S_ .f32 0x3F800000#32))
      (Host.exp (Host.negf (extractStridedSlice Cert.GatesRefIdeal.S16384x4096 ![0, 4096]
        (Host.dotGeneral Cert.GatesRefIdeal.dot_S16384x2048_S2048x8192_S16384x8192_1_0_0_1_n_n none
          (extf .f32 U Cert.GatesRefIdeal.Gen.bitsLt_bf16_f32)
          (shapeCast Cert.GatesRefIdeal.S2048x8192 Wt Cert.GatesRefIdeal.Gen.shapeCasts_S1x2048x8192_S2048x8192))
        Cert.GatesRefIdeal.Gen.slices_S16384x8192_S16384x4096_0_4096)))))
    Cert.GatesRefIdeal.Gen.bitsLt_bf16_f32

/-- Each window's block index at a grid point: the rows move with the point, the columns of the weight stay in its
    second half. -/
theorem idx : ∀ t : Fin cfg0.N, win0_0.index t = ![t.val, 0] ∧ win0_1.index t = ![0, 1] ∧ win0_2.index t = ![t.val, 0] :=
  (by decide +kernel : ∀ t : Fin grid0.N, _)

/-- What the body stores at block index `y` of grid point `t` is the reference at the array index `y` sits at. -/
theorem point (c : Dev nD) (t : Fin cfg0.N) (y : S1024x4096.Idx) :
    out0_2 (F := Ideal) (iblk m c 0 t) (iblk m c 1 t) y
      = REF (m ((c : Thread nD τ).loc main_arg0)) (m ((c : Thread nD τ).loc main_arg1)) (((cfg0.win 2).blk t).view.emb y) := by
  canon_tiles x h
  all_goals
    open_payloads
    pointwise [REF]
    rw [Cert.Scalars.gate_eq]
    blk_point [iblk, V, idx t]

/-- The whole result array after the run is the reference of the arguments. -/
theorem final (c : Dev nD) : (dats (F := Ideal) m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp; rw [after0_2]; exact point m c t y

end Cert.GatesIdeal.Hand

end
-- ==== Proof.GatesClaim.lean ====
/- The five claims about the gate projection: both programs' and the reference's frames, the idealized text, and the value. -/
module

public import proofs.«01_k».proof.Defs
public import proofs.«01_k».proof.Proof.Gen.Gates.Frame
public import proofs.«01_k».proof.Proof.Gen.GatesRefIdeal.Run
public import proofs.«01_k».proof.Proof.GatesValue
public import Idealize.ShloMosaic.Lib.Claim

@[expose] public section

noncomputable section

namespace Cert.GatesClaim

open Idealize.ShloMosaic Idealize.ShloMosaic.TcCoe Idealize.SL.Sem

theorem frame_kernel : Cert.quiescent_Gates := fun m g _ => Cert.Gates.Gen.frame m g

theorem frame_ideal : Cert.quiescent_GatesIdeal := fun m g _ => Cert.GatesIdeal.Gen.frame m g

/-- The reference is a line of host operations and declares no semaphore. -/
theorem frame_reference : Cert.quiescent_GatesRefIdeal := fun m g _ =>
  (θ_run Cert.GatesRefIdeal.defs _ _).mono (fun r h => ⟨fun c => (h c).2,
      Idealize.ShloMosaic.sem_eq_zero_of_no_sems (by decide) r.2⟩)
    (Cert.GatesRefIdeal.Value.run (F := Ideal) m g)

theorem preserves : Cert.preserves_Gates_GatesIdeal := trivial

theorem algebraic : Cert.algebraic_GatesIdeal_GatesRefIdeal := by
  pair_intro
  · run_from Cert.GatesIdeal.Value.run_blocks m g
  · run_from Cert.GatesRefIdeal.Value.run m' g'
    exact (Cert.GatesIdeal.Hand.final m c).symm

end Cert.GatesClaim

end
-- ==== Proof.AttnBody.lean ====
/- The attention kernel's body: the run of one grid point over whole staging buffers. -/
module

public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

/-- Six blocks of 256 rows stacked: what the body copies into a scratch buffer. -/
abbrev band (x1 x2 x3 x4 x5 x6 : Vec F S256x1024 .bf16) : List (View.Piece (Elt F) S1536x1024 .bf16) :=
  [⟨Rect.unit (s := S1536x1024) ![1280, 0] S256x1024.size inb_S1536x1024_S256x1024_1280_0, x6⟩,
    ⟨Rect.unit (s := S1536x1024) ![1024, 0] S256x1024.size inb_S1536x1024_S256x1024_1024_0, x5⟩,
    ⟨Rect.unit (s := S1536x1024) ![768, 0] S256x1024.size inb_S1536x1024_S256x1024_768_0, x4⟩,
    ⟨Rect.unit (s := S1536x1024) ![512, 0] S256x1024.size inb_S1536x1024_S256x1024_512_0, x3⟩,
    ⟨Rect.unit (s := S1536x1024) ![256, 0] S256x1024.size inb_S1536x1024_S256x1024_256_0, x2⟩,
    ⟨Rect.unit (s := S1536x1024) ![0, 0] S256x1024.size inb_S1536x1024_S256x1024_0_0, x1⟩]

theorem band_cover (x1 x2 x3 x4 x5 x6 : Vec F S256x1024 .bf16) (y : S1536x1024.Idx) :
    ∃ pc ∈ band x1 x2 x3 x4 x5 x6, y ∈ pc.1.set :=
  View.cover_of_tiled (band x1 x2 x3 x4 x5 x6) S256x1024.size (by rfl) y

/-- Whole contents under a covering list of stores are the stores' pieces. -/
theorem fold {s : Shape} (c : Dev nD) (M : Memref sig .tc .vmem s .bf16) (h : M.IsWhole) (f : M.view.ty.Contents (Elt F))
    (L : List (View.Piece (Elt F) s .bf16)) (hL : ∀ y, ∃ pc ∈ L, y ∈ pc.1.set) :
    M.view.writes (Elt F) f L = h.unread (View.canon L) :=
  h.eq_unread (View.read_writes_eq_canon _ _ _ hL)

set_option maxHeartbeats 8000000 in
/-- From whole staging buffers at named contents the body runs to a result written by pieces the run finds, its
    inputs as they were and the two scratch buffers at some contents. -/
noncomputable def bodyRun (c : Dev nD) (i : grid0.Coords) (arg1 : Memref sig .tc .vmem S1024x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S8x8x128x512 .f32) (harg14 : arg14.IsWhole) (arg15 : Memref sig .tc .vmem S1024x1024 .bf16) (harg15 : arg15.IsWhole) (arg16 : Memref sig .tc .vmem S1536x1024 .bf16) (harg16 : arg16.IsWhole) (arg17 : Memref sig .tc .vmem S1536x1024 .bf16) (harg17 : arg17.IsWhole)
    (x0 : Vec F S1024x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .bf16) (x10 : Vec F S256x1024 .bf16) (x11 : Vec F S256x1024 .bf16) (x12 : Vec F S256x1024 .bf16) (x13 : Vec F S8x8x128x512 .f32) :
    { L : List (View.Piece (Elt F) S1024x1024 .bf16) // ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L) ∗ (∃ d, owns (c : Thread nD τ) arg16 fullShare d) ∗ (∃ d, owns (c : Thread nD τ) arg17 fullShare d)) -∗ K ⟨⟩))
      ⊢ wp frame (wpE (defs₀ (F := F)) Variants.none c none) E (cc0_nbr_attention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_nbr_attention_eq_skeleton]; unfold cc0_nbr_attention_skel
    simp only [k0_part107_eq_skeleton, k0_part108_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    set_option sl_exec.maxSteps 40 in sl_exec
    rw [fold c arg16 harg16 _ _ (band_cover _ _ _ _ _ _), fold c arg17 harg17 _ _ (band_cover _ _ _ _ _ _)]
    sl_exec
    sl_step
    iapply Hk
    isplitl [H0]
    · iexists _; isplitr
      swap; · iexact H0
      ipureintro; exact harg1.read_unread _
    isplitl [H1]
    · iexists _; isplitr
      swap; · iexact H1
      ipureintro; exact harg2.read_unread _
    isplitl [H2]
    · iexists _; isplitr
      swap; · iexact H2
      ipureintro; exact harg3.read_unread _
    isplitl [H3]
    · iexists _; isplitr
      swap; · iexact H3
      ipureintro; exact harg4.read_unread _
    isplitl [H4]
    · iexists _; isplitr
      swap; · iexact H4
      ipureintro; exact harg5.read_unread _
    isplitl [H5]
    · iexists _; isplitr
      swap; · iexact H5
      ipureintro; exact harg6.read_unread _
    isplitl [H6]
    · iexists _; isplitr
      swap; · iexact H6
      ipureintro; exact harg7.read_unread _
    isplitl [H7]
    · iexists _; isplitr
      swap; · iexact H7
      ipureintro; exact harg8.read_unread _
    isplitl [H8]
    · iexists _; isplitr
      swap; · iexact H8
      ipureintro; exact harg9.read_unread _
    isplitl [H9]
    · iexists _; isplitr
      swap; · iexact H9
      ipureintro; exact harg10.read_unread _
    isplitl [H10]
    · iexists _; isplitr
      swap; · iexact H10
      ipureintro; exact harg11.read_unread _
    isplitl [H11]
    · iexists _; isplitr
      swap; · iexact H11
      ipureintro; exact harg12.read_unread _
    isplitl [H12]
    · iexists _; isplitr
      swap; · iexact H12
      ipureintro; exact harg13.read_unread _
    isplitl [H13]
    · iexists _; isplitr
      swap; · iexact H13
      ipureintro; exact harg14.read_unread _
    isplitl [H14]; · iexists _; iexact H14
    isplitl [HS0]
    · iexists _, _; isplitr
      swap; · iexact HS0
      ipureintro; rfl
    iexists _, _; isplitr
    swap; · iexact HS1
    ipureintro; rfl

theorem bodyRun_cover (c : Dev nD) (i : grid0.Coords) (arg1 : Memref sig .tc .vmem S1024x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S8x8x128x512 .f32) (harg14 : arg14.IsWhole) (arg15 : Memref sig .tc .vmem S1024x1024 .bf16) (harg15 : arg15.IsWhole) (arg16 : Memref sig .tc .vmem S1536x1024 .bf16) (harg16 : arg16.IsWhole) (arg17 : Memref sig .tc .vmem S1536x1024 .bf16) (harg17 : arg17.IsWhole)
    (x0 : Vec F S1024x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .bf16) (x10 : Vec F S256x1024 .bf16) (x11 : Vec F S256x1024 .bf16) (x12 : Vec F S256x1024 .bf16) (x13 : Vec F S8x8x128x512 .f32) (y : S1024x1024.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).1, y ∈ pc.1.set :=
  View.cover_of_tiledL (s := S1024x1024) _ ![64, 128] (by sl_kernel_rfl) y

end Cert.AttnIdeal.Hand
end
-- ==== Proof.AttnFrame.lean ====
/- The frame of the attention kernel: what each grid point finds and leaves. The keys and the values are each staged through
   six windows on one array, so every input is held at its share of its array. -/
module

public import proofs.«01_k».proof.Proof.Gen.AttnIdeal.Frame
public import proofs.«01_k».proof.Proof.AttnBody
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body stores at point `t`, as the run finds it: the list of its pieces. -/
def piecesAt (c : Dev nD) (t : Fin cfg0.N) : List (View.Piece (Elt F) S1024x1024 .bf16) :=
  (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).1

theorem piecesAt_cover (c : Dev nD) (t : Fin cfg0.N) (y : S1024x1024.Idx) : ∃ pc ∈ piecesAt m c t, y ∈ pc.1.set :=
  bodyRun_cover c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => View.canon (piecesAt m c t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = View.canon (piecesAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body at each point -/

/-- The scratch buffers and the generator register, as the body is handed them. -/
theorem PhiA0_eq (c : Dev nD) :
    (Pipeline.ΦA spec0 c : sProp 𝕄)
      = iprop((((∃ d, owns (c : Thread nD τ) (Memref.whole cc0_scratch0) fullShare d) ∗ (∃ d, owns (c : Thread nD τ) (Memref.whole cc0_scratch1) fullShare d)) ∗ (∃ r, prngReg c r))) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  iintro ⟨H0, H1, H2, H3, H4, H5, H6, H7, H8, H9, H10, H11, H12, H13, ⟨%f14, H14⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns
  iexists _; isplitr
  swap; · iexact H14
  ipureintro
  exact View.read_writes_eq_canon _ _ _ (bodyRun_cover c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run: the result array, the arguments as they were, and every counter at zero. -/
theorem run_result : θ_run defs (onTc (τ := τ) (main (F := F))) ⟨m, fun _ => 0, ρ⟩ (fun r => (∀ c : Dev nD,
      r.2.mem ((c.tc : Thread nD τ).loc main_v0) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 14,
      ((h.1 c).1 0).trans (((dats m 0 c).arrAt_in 0 rfl _).trans ((A_eq m c 0).trans (V_main_arg0 m c))),
      ((h.1 c).1 6).trans (((dats m 0 c).arrAt_in 6 rfl _).trans ((A_eq m c 6).trans (V_main_arg1 m c))),
      ((h.1 c).1 12).trans (((dats m 0 c).arrAt_in 12 rfl _).trans ((A_eq m c 12).trans (V_main_arg2 m c))),
      ((h.1 c).1 13).trans (((dats m 0 c).arrAt_in 13 rfl _).trans ((A_eq m c 13).trans (V_main_arg3 m c)))⟩, h.2⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_result m ρ)

end Cert.AttnIdeal.Hand
end
-- ==== Proof.AttnItem.lean ====
/- What the attention's body stores at one grid point, as one family: a pair of stores for each image row and each two
   pairs of heads. -/
module

public import proofs.«01_k».proof.Proof.AttnFrame

@[expose] public section

set_option maxRecDepth 16384

noncomputable section

namespace Cert.AttnIdeal.Hand

open Idealize.ShloMosaic Idealize.ShloMosaic.TcCoe Idealize.ShloMosaic.Tactic
open Cert.AttnIdeal.Gen

variable {F : FTy → Type} [FloatOps F]

/-- Where the band of image row `r` starts, at the lanes from `l`. -/
abbrev bandOff (i : grid0.Coords) (r : Fin 16) (l : ℕ) : Fin 2 → ℕ := ![k0_off1 i (BitVec.ofNat 32 r.val) 0, l]

/-- Where the bias of image row `r` and head pair `p` starts. -/
abbrev biasOff (i : grid0.Coords) (r : Fin 16) (p : Fin 8) : Fin 4 → ℕ := ![k0_off2 i (BitVec.ofNat 32 r.val) 0, p.val, 0, 0]

theorem row_inb (r : Fin 16) (p : Fin 8) : ∀ a, (![64 * r.val, 128 * p.val] : Fin 2 → ℕ) a + S64x128.size a ≤ S1024x1024.size a := by
  intro a; have := r.isLt; have := p.isLt
  match a with
  | 0 => show 64 * r.val + 64 ≤ 1024; omega
  | 1 => show 128 * p.val + 128 ≤ 1024; omega

theorem key_inb (i : grid0.Coords) (r : Fin 16) (p : Fin 8) : ∀ a, bandOff i r (128 * p.val) a + S512x128.size a ≤ S1536x1024.size a := by
  intro a; have := p.isLt
  match a with
  | 0 => exact k0_off1_inb i r 0
  | 1 => show 128 * p.val + 128 ≤ 1024; omega

theorem val_inb (i : grid0.Coords) (r : Fin 16) (h : Fin 4) : ∀ a, bandOff i r (256 * h.val) a + S512x256.size a ≤ S1536x1024.size a := by
  intro a; have := h.isLt
  match a with
  | 0 => exact k0_off1_inb i r 0
  | 1 => show 256 * h.val + 256 ≤ 1024; omega

theorem bias_inb (i : grid0.Coords) (r : Fin 16) (p : Fin 8) : ∀ a, biasOff i r p a + S1x1x128x512.size a ≤ S8x8x128x512.size a := by
  intro a; have := p.isLt
  match a with
  | 0 => exact k0_off2_inb i r 0
  | 1 => show p.val + 1 ≤ 8; omega
  | 2 => show 0 + 128 ≤ 128; omega
  | 3 => show 0 + 512 ≤ 512; omega

section
variable (i : grid0.Coords) (q : Vec F S1024x1024 .bf16) (kb vb : Vec F S1536x1024 .bf16) (tb : Vec F S8x8x128x512 .f32)

/-- The scores of image row `r` and head pair `p`: the first head's 64 rows, then the second's. -/
def scoresAt (r : Fin 16) (p : Fin 8) : FVec F S128x512 .f32 :=
  k0_pay17 k0_pay16 (View.ld q (Rect.unit (s := S1024x1024) ![64 * r.val, 128 * p.val] S64x128.size (row_inb r p)))
    (View.ld kb (Rect.unit (s := S1536x1024) (bandOff i r (128 * p.val)) S512x128.size (key_inb i r p)))
    (View.ld tb (Rect.unit (s := S8x8x128x512) (biasOff i r p) S1x1x128x512.size (bias_inb i r p)))

/-- The values of image row `r`'s band for the two head pairs `2 h` and `2 h + 1`. -/
def valuesAt (r : Fin 16) (h : Fin 4) : Vec F S512x256 .bf16 :=
  View.ld vb (Rect.unit (s := S1536x1024) (bandOff i r (256 * h.val)) S512x256.size (val_inb i r h))

/-- Two head pairs' products with the values, for the second of the two: the lower right quarter, scaled. -/
def oddOut (w w' : FVec F S128x512 .bf16) (inv : FVec F S128x1 .f32) (vs : Vec F S512x256 .bf16) : FVec F S64x128 .bf16 :=
  have x : FVec F S128x128 .f32 := mulf (extractStridedSlice S128x128 ![128, 128] (k0_pay1 w w' vs) slices_S256x256_o128_128_S128x128)
    (broadcastTo S128x128 inv broadcasts_S128x1_S128x128)
  truncf .bf16 (select k0_pay16 (extractStridedSlice S64x128 ![0, 0] x slices_S128x128_o0_0_S64x128)
    (extractStridedSlice S64x128 ![64, 0] x slices_S128x128_o64_0_S64x128)) bitsLt_bf16_f32

abbrev lo (h : Fin 4) : Fin 8 := ⟨2 * h.val, by omega⟩
abbrev hi (h : Fin 4) : Fin 8 := ⟨2 * h.val + 1, by omega⟩

/-- The store of image row `r` and head pair `2 h`. -/
def evenPiece (r : Fin 16) (h : Fin 4) : View.Piece (Elt F) S1024x1024 .bf16 :=
  ⟨Rect.unit (s := S1024x1024) ![64 * r.val, 128 * (lo h).val] S64x128.size (row_inb r (lo h)),
    k0_pay2 k0_pay16 (k0_pay23 (scoresAt i q kb tb r (lo h))) (k0_pay24 (scoresAt i q kb tb r (lo h)))
      (k0_pay23 (scoresAt i q kb tb r (hi h))) (valuesAt i vb r h)⟩

/-- The store of image row `r` and head pair `2 h + 1`. -/
def oddPiece (r : Fin 16) (h : Fin 4) : View.Piece (Elt F) S1024x1024 .bf16 :=
  ⟨Rect.unit (s := S1024x1024) ![64 * r.val, 128 * (hi h).val] S64x128.size (row_inb r (hi h)),
    oddOut (k0_pay23 (scoresAt i q kb tb r (lo h))) (k0_pay23 (scoresAt i q kb tb r (hi h)))
      (k0_pay24 (scoresAt i q kb tb r (hi h))) (valuesAt i vb r h)⟩

/-- The first `n` pairs of stores, the last first. -/
def stores : ℕ → List (View.Piece (Elt F) S1024x1024 .bf16)
  | 0 => []
  | n + 1 => oddPiece i q kb vb tb (Fin.ofNat 16 (n / 4)) (Fin.ofNat 4 n)
      :: evenPiece i q kb vb tb (Fin.ofNat 16 (n / 4)) (Fin.ofNat 4 n) :: stores n

theorem mem_stores (n : ℕ) (pc : View.Piece (Elt F) S1024x1024 .bf16) (h : pc ∈ stores i q kb vb tb n) :
    ∃ r h', pc = evenPiece i q kb vb tb r h' ∨ pc = oddPiece i q kb vb tb r h' := by
  induction n with
  | zero => cases h
  | succ n ih =>
    rcases List.mem_cons.1 h with h | h
    · exact ⟨_, _, .inr h⟩
    rcases List.mem_cons.1 h with h | h
    · exact ⟨_, _, .inl h⟩
    exact ih h
end

section
variable (m : (ℓ : Loc nD τ sig) → Buf (Elt F) ℓ)

/-- The keys, or the values, around grid point `t`: its six blocks stacked. -/
def keysAt (c : Dev nD) (t : Fin cfg0.N) : Vec F S1536x1024 .bf16 :=
  View.canon (band (iblk m c 1 t) (iblk m c 2 t) (iblk m c 3 t) (iblk m c 4 t) (iblk m c 5 t) (iblk m c 6 t))
def valsAt (c : Dev nD) (t : Fin cfg0.N) : Vec F S1536x1024 .bf16 :=
  View.canon (band (iblk m c 7 t) (iblk m c 8 t) (iblk m c 9 t) (iblk m c 10 t) (iblk m c 11 t) (iblk m c 12 t))
end

end Cert.AttnIdeal.Hand
end
-- ==== Proof.AttnList.lean ====
/- The list of stores the run of the attention's body finds is the family of `AttnItem`. -/
module

public import proofs.«01_k».proof.Proof.AttnItem

@[expose] public section

set_option maxRecDepth 65536

noncomputable section

namespace Cert.AttnIdeal.Hand

open Idealize.ShloMosaic Idealize.ShloMosaic.TcCoe Idealize.ShloMosaic.Tactic
open Cert.AttnIdeal.Gen

variable {F : FTy → Type} [FloatOps F]

set_option maxHeartbeats 8000000 in
theorem stores_run (c : Dev nD) (i : grid0.Coords) (arg1 : Memref sig .tc .vmem S1024x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S8x8x128x512 .f32) (harg14 : arg14.IsWhole) (arg15 : Memref sig .tc .vmem S1024x1024 .bf16) (harg15 : arg15.IsWhole) (arg16 : Memref sig .tc .vmem S1536x1024 .bf16) (harg16 : arg16.IsWhole) (arg17 : Memref sig .tc .vmem S1536x1024 .bf16) (harg17 : arg17.IsWhole)
    (x0 : Vec F S1024x1024 .bf16) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S256x1024 .bf16) (x9 : Vec F S256x1024 .bf16) (x10 : Vec F S256x1024 .bf16) (x11 : Vec F S256x1024 .bf16) (x12 : Vec F S256x1024 .bf16) (x13 : Vec F S8x8x128x512 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).1
      = stores i (arg1.view.read (Elt F) (harg1.unread x0)) (arg16.view.read (Elt F) (harg16.unread (View.canon (band (bodyRun.sl.v3 c arg2 harg2 x1) (bodyRun.sl.v11 c arg3 harg3 x2) (bodyRun.sl.v19 c arg4 harg4 x3) (bodyRun.sl.v27 c arg5 harg5 x4) (bodyRun.sl.v35 c arg6 harg6 x5) (bodyRun.sl.v43 c arg7 harg7 x6)))))
          (arg17.view.read (Elt F) (harg17.unread (View.canon (band (bodyRun.sl.v7 c arg8 harg8 x7) (bodyRun.sl.v15 c arg9 harg9 x8) (bodyRun.sl.v23 c arg10 harg10 x9) (bodyRun.sl.v31 c arg11 harg11 x10) (bodyRun.sl.v39 c arg12 harg12 x11) (bodyRun.sl.v47 c arg13 harg13 x12))))) (arg14.view.read (Elt F) (harg14.unread x13)) 64 := by
  sl_kernel_rfl

end Cert.AttnIdeal.Hand
end
-- ==== Proof.AttnBlocks.lean ====
/- The attention's blocks at a grid point as parts of the arrays, and where the run-time offsets point. -/
module

public import proofs.«01_k».proof.Proof.AttnList
public import Idealize.ShloMosaic.Lib.Pipeline.ValueKit
public import Idealize.ShloMosaic.Lib.Pointwise
public import Idealize.ShloMosaic.Lib.Pipeline.ReadBack

@[expose] public section

set_option maxRecDepth 16384

noncomputable section

namespace Cert.AttnIdeal.Hand

open Cert.AttnIdeal Cert.AttnIdeal.Gen Idealize.ShloMosaic Idealize.ShloMosaic.TcCoe Idealize.SL.Sem

variable (m : (ℓ : Loc nD τ sig) → Buf (Elt Ideal) ℓ)

/-- The first of the six 256-row blocks of keys (and values) at grid point `t`. -/
abbrev blk0 (t : ℕ) : ℕ := 8 * (t / 2) + 2 * (t % 2)

/-- The first image row of the band of image row `n`. -/
abbrev bandRow (n : ℕ) : ℕ := 32 * (n / 32) + min 24 (n % 32 - 4)

/-- The row offset of the bias of image row `n`. -/
abbrev biasRow (n : ℕ) : ℕ := min 24 (n % 32 - 4) + 7 - n % 32

theorem idx : ∀ t : Fin cfg0.N, win0_0.index t = ![t.val, 0]
    ∧ win0_1.index t = ![blk0 t.val + 0, 0] ∧ win0_2.index t = ![blk0 t.val + 1, 0] ∧ win0_3.index t = ![blk0 t.val + 2, 0]
    ∧ win0_4.index t = ![blk0 t.val + 3, 0] ∧ win0_5.index t = ![blk0 t.val + 4, 0] ∧ win0_6.index t = ![blk0 t.val + 5, 0]
    ∧ win0_7.index t = ![blk0 t.val + 0, 0] ∧ win0_8.index t = ![blk0 t.val + 1, 0] ∧ win0_9.index t = ![blk0 t.val + 2, 0]
    ∧ win0_10.index t = ![blk0 t.val + 3, 0] ∧ win0_11.index t = ![blk0 t.val + 4, 0] ∧ win0_12.index t = ![blk0 t.val + 5, 0]
    ∧ win0_13.index t = ![0, 0, 0, 0] ∧ win0_14.index t = ![t.val, 0] :=
  (by decide +kernel : ∀ t : Fin grid0.N, _)

/-- The band of image row `16 t + r`, counted from the first staged block. -/
theorem band_at : ∀ (t : Fin cfg0.N) (r : Fin 16),
    256 * blk0 t.val + k0_off1 (grid0.coords t) (BitVec.ofNat 32 r.val) 0 = 64 * bandRow (16 * t.val + r.val) :=
  (by decide +kernel : ∀ (t : Fin grid0.N) (r : Fin 16), _)

theorem bias_at : ∀ (t : Fin cfg0.N) (r : Fin 16),
    k0_off2 (grid0.coords t) (BitVec.ofNat 32 r.val) 0 = biasRow (16 * t.val + r.val) :=
  (by decide +kernel : ∀ (t : Fin grid0.N) (r : Fin 16), _)

theorem t_lt (t : Fin cfg0.N) : t.val < 16 := t.isLt

theorem blk0_le (t : Fin cfg0.N) : blk0 t.val ≤ 58 := by have := t_lt t; unfold blk0; omega

theorem q_at (c : Dev nD) (t : Fin cfg0.N) (a : Fin 1024) (l : Fin 1024) :
    iblk m c 0 t (ix2 a l) = m ((c.tc : Thread nD τ).loc main_arg0) (ix2 ⟨1024 * t.val + a.val, by have := t_lt t; omega⟩ l) := by
  blk_point [iblk, V, idx t]

theorem table_at (c : Dev nD) (t : Fin cfg0.N) : iblk m c 13 t = m ((c.tc : Thread nD τ).loc main_arg3) := by
  funext x
  blk_point [iblk, V, idx t]

/-- Row `j + a` of the rows from the first staged block on. -/
def rowAt (t : Fin cfg0.N) (j : ℕ) (a : Fin 256) (h : j ≤ 1280) : Fin 16384 := ⟨256 * blk0 t.val + (j + a.val), by have := blk0_le t; omega⟩

theorem key0 (c : Dev nD) (t : Fin cfg0.N) (x : S256x1024.Idx) :
    iblk m c 1 t x = m ((c.tc : Thread nD τ).loc main_arg1) (ix2 (rowAt t 0 (x 0) (by decide)) (x 1)) := by
  idx_vars x
  blk_point [iblk, V, idx t]
  simp only [rowAt]; omega

theorem key1 (c : Dev nD) (t : Fin cfg0.N) (x : S256x1024.Idx) :
    iblk m c 2 t x = m ((c.tc : Thread nD τ).loc main_arg1) (ix2 (rowAt t 256 (x 0) (by decide)) (x 1)) := by
  idx_vars x
  blk_point [iblk, V, idx t]
  simp only [rowAt]; omega

theorem key2 (c : Dev nD) (t : Fin cfg0.N) (x : S256x1024.Idx) :
    iblk m c 3 t x = m ((c.tc : Thread nD τ).loc main_arg1) (ix2 (rowAt t 512 (x 0) (by decide)) (x 1)) := by
  idx_vars x
  blk_point [iblk, V, idx t]
  simp only [rowAt]; omega

theorem key3 (c : Dev nD) (t : Fin cfg0.N) (x : S256x1024.Idx) :
    iblk m c 4 t x = m ((c.tc : Thread nD τ).loc main_arg1) (ix2 (rowAt t 768 (x 0) (by decide)) (x 1)) := by
  idx_vars x
  blk_point [iblk, V, idx t]
  simp only [rowAt]; omega

theorem key4 (c : Dev nD) (t : Fin cfg0.N) (x : S256x1024.Idx) :
    iblk m c 5 t x = m ((c.tc : Thread nD τ).loc main_arg1) (ix2 (rowAt t 1024 (x 0) (by decide)) (x 1)) := by
  idx_vars x
  blk_point [iblk, V, idx t]
  simp only [rowAt]; omega

theorem key5 (c : Dev nD) (t : Fin cfg0.N) (x : S256x1024.Idx) :
    iblk m c 6 t x = m ((c.tc : Thread nD τ).loc main_arg1) (ix2 (rowAt t 1280 (x 0) (by decide)) (x 1)) := by
  idx_vars x
  blk_point [iblk, V, idx t]
  simp only [rowAt]; omega

theorem val0 (c : Dev nD) (t : Fin cfg0.N) (x : S256x1024.Idx) :
    iblk m c 7 t x = m ((c.tc : Thread nD τ).loc main_arg2) (ix2 (rowAt t 0 (x 0) (by decide)) (x 1)) := by
  idx_vars x
  blk_point [iblk, V, idx t]
  simp only [rowAt]; omega

theorem val1 (c : Dev nD) (t : Fin cfg0.N) (x : S256x1024.Idx) :
    iblk m c 8 t x = m ((c.tc : Thread nD τ).loc main_arg2) (ix2 (rowAt t 256 (x 0) (by decide)) (x 1)) := by
  idx_vars x
  blk_point [iblk, V, idx t]
  simp only [rowAt]; omega

theorem val2 (c : Dev nD) (t : Fin cfg0.N) (x : S256x1024.Idx) :
    iblk m c 9 t x = m ((c.tc : Thread nD τ).loc main_arg2) (ix2 (rowAt t 512 (x 0) (by decide)) (x 1)) := by
  idx_vars x
  blk_point [iblk, V, idx t]
  simp only [rowAt]; omega

theorem val3 (c : Dev nD) (t : Fin cfg0.N) (x : S256x1024.Idx) :
    iblk m c 10 t x = m ((c.tc : Thread nD τ).loc main_arg2) (ix2 (rowAt t 768 (x 0) (by decide)) (x 1)) := by
  idx_vars x
  blk_point [iblk, V, idx t]
  simp only [rowAt]; omega

theorem val4 (c : Dev nD) (t : Fin cfg0.N) (x : S256x1024.Idx) :
    iblk m c 11 t x = m ((c.tc : Thread nD τ).loc main_arg2) (ix2 (rowAt t 1024 (x 0) (by decide)) (x 1)) := by
  idx_vars x
  blk_point [iblk, V, idx t]
  simp only [rowAt]; omega

theorem val5 (c : Dev nD) (t : Fin cfg0.N) (x : S256x1024.Idx) :
    iblk m c 12 t x = m ((c.tc : Thread nD τ).loc main_arg2) (ix2 (rowAt t 1280 (x 0) (by decide)) (x 1)) := by
  idx_vars x
  blk_point [iblk, V, idx t]
  simp only [rowAt]; omega

theorem at2 {a b : ℕ} {β : Type} (A : (⟨2, ![a, b]⟩ : Shape).Idx → β) {i i' : Fin a} {j j' : Fin b} (hi : i.val = i'.val) (hj : j.val = j'.val) :
    A (ix2 i j) = A (ix2 i' j') := by rw [Fin.ext hi, Fin.ext hj]

/-- The 1536 rows from the first staged block on. -/
def rowsFrom (A : Vec Ideal S16384x1024 .bf16) (t : Fin cfg0.N) : Vec Ideal S1536x1024 .bf16 := fun y =>
  A (ix2 ⟨256 * blk0 t.val + (y 0).val, by have := blk0_le t; have : (y 0).val < 1536 := (y 0).isLt; omega⟩ (y 1))

/-- The stacked blocks are consecutive rows of the array. -/
theorem band_rows (A : Vec Ideal S16384x1024 .bf16) (t : Fin cfg0.N) (x1 x2 x3 x4 x5 x6 : Vec Ideal S256x1024 .bf16)
    (h1 : ∀ x : S256x1024.Idx, x1 x = A (ix2 (rowAt t 0 (x 0) (by decide)) (x 1)))
    (h2 : ∀ x : S256x1024.Idx, x2 x = A (ix2 (rowAt t 256 (x 0) (by decide)) (x 1)))
    (h3 : ∀ x : S256x1024.Idx, x3 x = A (ix2 (rowAt t 512 (x 0) (by decide)) (x 1)))
    (h4 : ∀ x : S256x1024.Idx, x4 x = A (ix2 (rowAt t 768 (x 0) (by decide)) (x 1)))
    (h5 : ∀ x : S256x1024.Idx, x5 x = A (ix2 (rowAt t 1024 (x 0) (by decide)) (x 1)))
    (h6 : ∀ x : S256x1024.Idx, x6 x = A (ix2 (rowAt t 1280 (x 0) (by decide)) (x 1)))
    (a : Fin 1536) (l : Fin 1024) :
    View.canon (band x1 x2 x3 x4 x5 x6) (ix2 a l) = A (ix2 ⟨256 * blk0 t.val + a.val, by have := blk0_le t; omega⟩ l) := by
  refine View.canon_apply_of_pieces (e := .bf16) (Val := Elt Ideal) (rowsFrom A t) (band x1 x2 x3 x4 x5 x6)
    (View.PiecesOf.mem (G := rowsFrom A t) ?_) (ix2 a l) (band_cover _ _ _ _ _ _ _)
  refine ⟨fun x => (h6 x).trans (at2 A ?_ ?_), fun x => (h5 x).trans (at2 A ?_ ?_), fun x => (h4 x).trans (at2 A ?_ ?_),
    fun x => (h3 x).trans (at2 A ?_ ?_), fun x => (h2 x).trans (at2 A ?_ ?_), fun x => (h1 x).trans (at2 A ?_ ?_), trivial⟩
  · show 256 * blk0 t.val + (1280 + (x 0).val) = 256 * blk0 t.val + (1280 + 1 * (x 0).val); omega
  · show (x 1).val = 0 + 1 * (x 1).val; omega
  · show 256 * blk0 t.val + (1024 + (x 0).val) = 256 * blk0 t.val + (1024 + 1 * (x 0).val); omega
  · show (x 1).val = 0 + 1 * (x 1).val; omega
  · show 256 * blk0 t.val + (768 + (x 0).val) = 256 * blk0 t.val + (768 + 1 * (x 0).val); omega
  · show (x 1).val = 0 + 1 * (x 1).val; omega
  · show 256 * blk0 t.val + (512 + (x 0).val) = 256 * blk0 t.val + (512 + 1 * (x 0).val); omega
  · show (x 1).val = 0 + 1 * (x 1).val; omega
  · show 256 * blk0 t.val + (256 + (x 0).val) = 256 * blk0 t.val + (256 + 1 * (x 0).val); omega
  · show (x 1).val = 0 + 1 * (x 1).val; omega
  · show 256 * blk0 t.val + (0 + (x 0).val) = 256 * blk0 t.val + (0 + 1 * (x 0).val); omega
  · show (x 1).val = 0 + 1 * (x 1).val; omega

theorem keys_at (c : Dev nD) (t : Fin cfg0.N) (a : Fin 1536) (l : Fin 1024) :
    keysAt m c t (ix2 a l) = m ((c.tc : Thread nD τ).loc main_arg1) (ix2 ⟨256 * blk0 t.val + a.val, by have := blk0_le t; omega⟩ l) :=
  band_rows (m ((c.tc : Thread nD τ).loc main_arg1)) t _ _ _ _ _ _ (key0 m c t) (key1 m c t) (key2 m c t) (key3 m c t) (key4 m c t) (key5 m c t) a l

theorem vals_at (c : Dev nD) (t : Fin cfg0.N) (a : Fin 1536) (l : Fin 1024) :
    valsAt m c t (ix2 a l) = m ((c.tc : Thread nD τ).loc main_arg2) (ix2 ⟨256 * blk0 t.val + a.val, by have := blk0_le t; omega⟩ l) :=
  band_rows (m ((c.tc : Thread nD τ).loc main_arg2)) t _ _ _ _ _ _ (val0 m c t) (val1 m c t) (val2 m c t) (val3 m c t) (val4 m c t) (val5 m c t) a l

end Cert.AttnIdeal.Hand
end
-- ==== Proof.AttnPieces.lean ====
/- The stores of a grid point as the family, over the blocks of the arrays. -/
module

public import proofs.«01_k».proof.Proof.AttnList
public import Idealize.ShloMosaic.Lib.Pipeline.ValueKit
public import Idealize.ShloMosaic.Lib.Pointwise

@[expose] public section

set_option maxRecDepth 16384

noncomputable section

namespace Cert.AttnIdeal.Hand

open Cert.AttnIdeal Cert.AttnIdeal.Gen Idealize.ShloMosaic Idealize.ShloMosaic.TcCoe Idealize.SL.Sem

variable (m : (ℓ : Loc nD τ sig) → Buf (Elt Ideal) ℓ)

/-- A whole load from a staging buffer is its contents. -/
theorem load_whole (M : Memref sig .tc .vmem S256x1024 .bf16) (h : M.IsWhole) (x : Vec Ideal S256x1024 .bf16) :
    View.readAt (Elt Ideal) M.view (Rect.unit (s := S256x1024) ![0, 0] S256x1024.size inb_S256x1024_S256x1024_0_0).toLoadRect (h.unread x) = x := by
  rw [View.readAt_eq_ld, h.read_unread]
  exact View.ld_unit_zero (by funext a; match a with | 0 => rfl | 1 => rfl) _ _

theorem load3 (c : Dev nD) (M : Memref sig .tc .vmem S256x1024 .bf16) (h : M.IsWhole) (x : Vec Ideal S256x1024 .bf16) : bodyRun.sl.v3 c M h x = x := by
  unfold bodyRun.sl.v3
  pointwise
  exact load_whole M h x
theorem load11 (c : Dev nD) (M : Memref sig .tc .vmem S256x1024 .bf16) (h : M.IsWhole) (x : Vec Ideal S256x1024 .bf16) : bodyRun.sl.v11 c M h x = x := by
  unfold bodyRun.sl.v11
  pointwise
  exact load_whole M h x
theorem load19 (c : Dev nD) (M : Memref sig .tc .vmem S256x1024 .bf16) (h : M.IsWhole) (x : Vec Ideal S256x1024 .bf16) : bodyRun.sl.v19 c M h x = x := by
  unfold bodyRun.sl.v19
  pointwise
  exact load_whole M h x
theorem load27 (c : Dev nD) (M : Memref sig .tc .vmem S256x1024 .bf16) (h : M.IsWhole) (x : Vec Ideal S256x1024 .bf16) : bodyRun.sl.v27 c M h x = x := by
  unfold bodyRun.sl.v27
  pointwise
  exact load_whole M h x
theorem load35 (c : Dev nD) (M : Memref sig .tc .vmem S256x1024 .bf16) (h : M.IsWhole) (x : Vec Ideal S256x1024 .bf16) : bodyRun.sl.v35 c M h x = x := by
  unfold bodyRun.sl.v35
  pointwise
  exact load_whole M h x
theorem load43 (c : Dev nD) (M : Memref sig .tc .vmem S256x1024 .bf16) (h : M.IsWhole) (x : Vec Ideal S256x1024 .bf16) : bodyRun.sl.v43 c M h x = x := by
  unfold bodyRun.sl.v43
  pointwise
  exact load_whole M h x
theorem load7 (c : Dev nD) (M : Memref sig .tc .vmem S256x1024 .bf16) (h : M.IsWhole) (x : Vec Ideal S256x1024 .bf16) : bodyRun.sl.v7 c M h x = x := by
  unfold bodyRun.sl.v7
  pointwise
  exact load_whole M h x
theorem load15 (c : Dev nD) (M : Memref sig .tc .vmem S256x1024 .bf16) (h : M.IsWhole) (x : Vec Ideal S256x1024 .bf16) : bodyRun.sl.v15 c M h x = x := by
  unfold bodyRun.sl.v15
  pointwise
  exact load_whole M h x
theorem load23 (c : Dev nD) (M : Memref sig .tc .vmem S256x1024 .bf16) (h : M.IsWhole) (x : Vec Ideal S256x1024 .bf16) : bodyRun.sl.v23 c M h x = x := by
  unfold bodyRun.sl.v23
  pointwise
  exact load_whole M h x
theorem load31 (c : Dev nD) (M : Memref sig .tc .vmem S256x1024 .bf16) (h : M.IsWhole) (x : Vec Ideal S256x1024 .bf16) : bodyRun.sl.v31 c M h x = x := by
  unfold bodyRun.sl.v31
  pointwise
  exact load_whole M h x
theorem load39 (c : Dev nD) (M : Memref sig .tc .vmem S256x1024 .bf16) (h : M.IsWhole) (x : Vec Ideal S256x1024 .bf16) : bodyRun.sl.v39 c M h x = x := by
  unfold bodyRun.sl.v39
  pointwise
  exact load_whole M h x
theorem load47 (c : Dev nD) (M : Memref sig .tc .vmem S256x1024 .bf16) (h : M.IsWhole) (x : Vec Ideal S256x1024 .bf16) : bodyRun.sl.v47 c M h x = x := by
  unfold bodyRun.sl.v47
  pointwise
  exact load_whole M h x

theorem piecesAt_eq (c : Dev nD) (t : Fin cfg0.N) :
    piecesAt m c t = stores (grid0.coords t) (iblk m c 0 t) (keysAt m c t) (valsAt m c t) (iblk m c 13 t) 64 := by
  unfold piecesAt keysAt valsAt
  rw [stores_run]
  rw [Memref.IsWhole.read_unread, Memref.IsWhole.read_unread, Memref.IsWhole.read_unread, Memref.IsWhole.read_unread]
  rw [load3, load11, load19, load27, load35, load43, load7, load15, load23, load31, load39, load47]

end Cert.AttnIdeal.Hand
end
-- ==== Proof.AttnPure.lean ====
/- What one store of the attention's body holds over the extended reals, read at an index: the softmax's numerators
   against the values, times the reciprocal of their sum. -/
module

public import proofs.«01_k».proof.Proof.AttnItem
public import Idealize.ShloMosaic.Lib.Pipeline.ValueKit
public import Idealize.ShloMosaic.Lib.Pointwise

@[expose] public section

set_option maxRecDepth 16384

noncomputable section

namespace Cert.AttnIdeal.Hand

open Cert.AttnIdeal Cert.AttnIdeal.Gen Idealize.ShloMosaic Idealize.ShloMosaic.TcCoe Idealize.SL.Sem

/-- A row's largest score. -/
abbrev MX (s : Fin 512 → EReal) : EReal := Finset.univ.fold max (Ideal.ofBits FTy.f32 4286578688#32) s

/-- A row's unnormalized weights. -/
abbrev EX (s : Fin 512 → EReal) (k : Fin 512) : EReal := Ideal.exp (s k - MX s)

/-- Scores `s` against values `v`: the products' sum, then the reciprocal of the weights' sum. -/
def ATT (s v : Fin 512 → EReal) : EReal := (∑ k, EX s k * v k) * Ideal.div 1 (∑ k, EX s k)

/-- Lane `l` of a head pair belongs to the first head when it is below 64. -/
theorem lane_lt : ∀ l : Fin 128, IntOp.cmpi .slt (BitVec.ofNat 32 l.val) 64#32 = if l.val < 64 then 1#1 else 0#1 := by
  decide +kernel

/-- The row of a pair's 128 that lane `l` of query row `c` reads. -/
abbrev headRow (c : Fin 64) (l : Fin 128) : Fin 128 := ⟨64 * (l.val / 64) + c.val, by omega⟩

theorem even_at (s s' : FVec Ideal S128x512 .f32) (vs : Vec Ideal S512x256 .bf16) (c : Fin 64) (l : Fin 128) :
    k0_pay2 (F := Ideal) k0_pay16 (k0_pay23 s) (k0_pay24 s) (k0_pay23 s') vs (ix2 c l)
      = ATT (fun k => s (ix2 (headRow c l) k)) (fun k => vs (ix2 k ⟨l.val, by omega⟩)) := by
  have hc := c.isLt
  pointwise [k0_pay2, k0_pay1, k0_pay16, k0_pay23, k0_pay24, k0_pay22, ATT]
  rw [lane_lt]
  by_cases h : l.val < 64
  · have e : headRow c l = ⟨c.val, by omega⟩ := Fin.ext (by show 64 * (l.val / 64) + c.val = c.val; omega)
    rw [if_pos h, e]
    simp only [Scalar.select, dif_pos (show c.val < 128 by omega)]
    rfl
  · have e : headRow c l = ⟨64 + c.val, by omega⟩ := Fin.ext (by show 64 * (l.val / 64) + c.val = 64 + c.val; omega)
    rw [if_neg h, e]
    simp only [Scalar.select, dif_pos (show 64 + c.val < 128 by omega)]
    rfl

theorem odd_at (s s' : FVec Ideal S128x512 .f32) (vs : Vec Ideal S512x256 .bf16) (c : Fin 64) (l : Fin 128) :
    oddOut (F := Ideal) (k0_pay23 s) (k0_pay23 s') (k0_pay24 s') vs (ix2 c l)
      = ATT (fun k => s' (ix2 (headRow c l) k)) (fun k => vs (ix2 k ⟨128 + l.val, by omega⟩)) := by
  have hc := c.isLt
  pointwise [oddOut, k0_pay1, k0_pay16, k0_pay23, k0_pay24, k0_pay22, ATT]
  rw [lane_lt]
  by_cases h : l.val < 64
  · have e : headRow c l = ⟨c.val, by omega⟩ := Fin.ext (by show 64 * (l.val / 64) + c.val = c.val; omega)
    rw [if_pos h, e]
    rfl
  · have e : headRow c l = ⟨64 + c.val, by omega⟩ := Fin.ext (by show 64 * (l.val / 64) + c.val = 64 + c.val; omega)
    rw [if_neg h, e]
    rfl

/-- A masked half of the lanes adds nothing: each head's score is over its own 64 lanes. -/
theorem scores_at (q : Vec Ideal S64x128 .bf16) (kb : Vec Ideal S512x128 .bf16) (b : Vec Ideal S1x1x128x512 .f32)
    (c : Fin 64) (l : Fin 128) (k : Fin 512) :
    k0_pay17 (F := Ideal) k0_pay16 q kb b (ix2 (headRow c l) k)
      = (∑ d : Fin 64, (show EReal from q (ix2 c ⟨64 * (l.val / 64) + d.val, by omega⟩)) * kb (ix2 k ⟨64 * (l.val / 64) + d.val, by omega⟩))
        + (show EReal from b (ix4 0 0 (headRow c l) k)) := by
  have hc := c.isLt
  have hl := l.isLt
  pointwise [k0_pay17, k0_pay16]
  refine Ideal.add_congr ?_ rfl
  simp only [lane_lt]
  refine (Fin.sum_univ_two_halves 64 64 rfl _).trans ?_
  by_cases h : l.val < 64
  · have h0 : l.val / 64 = 0 := by omega
    simp only [h0, Nat.mul_zero, Nat.zero_add]
    refine (Ideal.add_congr (Finset.sum_congr rfl fun d _ => ?_) (Finset.sum_eq_zero fun d _ => ?_)).trans (add_zero _)
    · rw [dif_pos hc, if_pos d.isLt]; rfl
    · rw [dif_pos hc, if_neg (by omega)]; exact zero_mul _
  · have h0 : l.val / 64 = 1 := by omega
    simp only [h0, Nat.mul_one]
    have h1 : ¬ 64 + c.val < 64 := by omega
    refine (Ideal.add_congr (Finset.sum_eq_zero fun d _ => ?_) (Finset.sum_congr rfl fun d _ => ?_)).trans (zero_add _)
    · rw [dif_neg h1, if_pos d.isLt]; exact zero_mul _
    · rw [dif_neg h1, if_neg (by omega)]
      simp only [Nat.add_sub_cancel_left]
      rfl

end Cert.AttnIdeal.Hand
end
-- ==== Proof.AttnOut.lean ====
/- The attention's result array over the extended reals: each store of each grid point is its part of one array. -/
module

public import proofs.«01_k».proof.Proof.AttnBlocks
public import proofs.«01_k».proof.Proof.AttnPieces
public import proofs.«01_k».proof.Proof.AttnPure

@[expose] public section

set_option maxRecDepth 16384

noncomputable section

namespace Cert.AttnIdeal.Hand

open Cert.AttnIdeal Cert.AttnIdeal.Gen Idealize.ShloMosaic Idealize.ShloMosaic.TcCoe Idealize.SL.Sem

theorem bandRow_le (n : Fin 256) : bandRow n.val ≤ 248 := by have := n.isLt; unfold bandRow; omega

theorem biasRow_lt (n : Fin 256) : biasRow n.val < 8 := by have := n.isLt; unfold biasRow; omega

/-- The scores of query column `c` of image row `n` for head `h`. -/
def scoreRow (Q K : Vec Ideal S16384x1024 .bf16) (T : Vec Ideal S8x8x128x512 .f32) (n : Fin 256) (c : Fin 64) (h : Fin 16) : Fin 512 → EReal := fun k =>
  (∑ d : Fin 64, (show EReal from Q (ix2 ⟨64 * n.val + c.val, by omega⟩ ⟨64 * h.val + d.val, by omega⟩))
      * K (ix2 ⟨64 * bandRow n.val + k.val, by have := bandRow_le n; omega⟩ ⟨64 * h.val + d.val, by omega⟩))
    + (show EReal from T (ix4 ⟨biasRow n.val, biasRow_lt n⟩ ⟨h.val / 2, by omega⟩ ⟨64 * (h.val % 2) + c.val, by omega⟩ k))

/-- The values of lane `l` in the band of image row `n`. -/
def valueRow (V : Vec Ideal S16384x1024 .bf16) (n : Fin 256) (l : Fin 1024) : Fin 512 → EReal := fun k =>
  V (ix2 ⟨64 * bandRow n.val + k.val, by have := bandRow_le n; omega⟩ l)

/-- The attention's result. -/
def attnOut (Q K V : Vec Ideal S16384x1024 .bf16) (T : Vec Ideal S8x8x128x512 .f32) : Vec Ideal S16384x1024 .bf16 := fun y =>
  have h0 : (y 0).val < 16384 := (y 0).isLt
  have h1 : (y 1).val < 1024 := (y 1).isLt
  ATT (scoreRow Q K T ⟨(y 0).val / 64, by omega⟩ ⟨(y 0).val % 64, by omega⟩ ⟨(y 1).val / 64, by omega⟩)
    (valueRow V ⟨(y 0).val / 64, by omega⟩ (y 1))

theorem to2 {a b : ℕ} {β : Type} (A : (⟨2, ![a, b]⟩ : Shape).Idx → β) {y : (⟨2, ![a, b]⟩ : Shape).Idx} {i : Fin a} {j : Fin b}
    (hi : (y 0).val = i.val) (hj : (y 1).val = j.val) : A y = A (ix2 i j) := by
  rw [show y = ix2 i j from by funext z; match z with | 0 => exact Fin.ext hi | 1 => exact Fin.ext hj]

theorem to4 {a b c d : ℕ} {β : Type} (A : (⟨4, ![a, b, c, d]⟩ : Shape).Idx → β) {y : (⟨4, ![a, b, c, d]⟩ : Shape).Idx} {i : Fin a} {j : Fin b} {k : Fin c} {l : Fin d}
    (hi : (y 0).val = i.val) (hj : (y 1).val = j.val) (hk : (y 2).val = k.val) (hl : (y 3).val = l.val) : A y = A (ix4 i j k l) := by
  rw [show y = ix4 i j k l from by
    funext z; match z with | 0 => exact Fin.ext hi | 1 => exact Fin.ext hj | 2 => exact Fin.ext hk | 3 => exact Fin.ext hl]

variable (m : (ℓ : Loc nD τ sig) → Buf (Elt Ideal) ℓ)

abbrev imgRow (t : Fin cfg0.N) (r : Fin 16) : Fin 256 := ⟨16 * t.val + r.val, by have := t_lt t; omega⟩

theorem q_ld (c : Dev nD) (t : Fin cfg0.N) (r : Fin 16) (p : Fin 8) (a : Fin 64) (j : Fin 128) :
    View.ld (iblk m c 0 t) (Rect.unit (s := S1024x1024) ![64 * r.val, 128 * p.val] S64x128.size (row_inb r p)) (ix2 a j)
      = m ((c.tc : Thread nD τ).loc main_arg0) (ix2 ⟨64 * (imgRow t r).val + a.val, by omega⟩ ⟨128 * p.val + j.val, by omega⟩) := by
  refine (to2 (iblk m c 0 t) (i := ⟨64 * r.val + a.val, by omega⟩) (j := ⟨128 * p.val + j.val, by omega⟩) ?_ ?_).trans ?_
  · show 64 * r.val + 1 * a.val = 64 * r.val + a.val; omega
  · show 128 * p.val + 1 * j.val = 128 * p.val + j.val; omega
  · exact (q_at m c t _ _).trans (at2 (m ((c.tc : Thread nD τ).loc main_arg0)) (by
      show 1024 * t.val + (64 * r.val + a.val) = 64 * (16 * t.val + r.val) + a.val; omega) rfl)

theorem off1_le (i : grid0.Coords) (r : Fin 16) : k0_off1 i (BitVec.ofNat 32 r.val) 0 + 512 ≤ 1536 := k0_off1_inb i r 0

theorem k_ld (c : Dev nD) (t : Fin cfg0.N) (r : Fin 16) (p : Fin 8) (k : Fin 512) (j : Fin 128) :
    View.ld (keysAt m c t) (Rect.unit (s := S1536x1024) (bandOff (grid0.coords t) r (128 * p.val)) S512x128.size (key_inb _ r p)) (ix2 k j)
      = m ((c.tc : Thread nD τ).loc main_arg1) (ix2 ⟨64 * bandRow (imgRow t r).val + k.val, by have := bandRow_le (imgRow t r); omega⟩ ⟨128 * p.val + j.val, by omega⟩) := by
  have hb := band_at t r
  have hk := off1_le (grid0.coords t) r
  refine (to2 (keysAt m c t) (i := ⟨k0_off1 (grid0.coords t) (BitVec.ofNat 32 r.val) 0 + k.val, by omega⟩) (j := ⟨128 * p.val + j.val, by omega⟩) ?_ ?_).trans ?_
  · show k0_off1 (grid0.coords t) (BitVec.ofNat 32 r.val) 0 + 1 * k.val = _ + k.val; omega
  · show 128 * p.val + 1 * j.val = 128 * p.val + j.val; omega
  · exact (keys_at m c t _ _).trans (at2 (m ((c.tc : Thread nD τ).loc main_arg1)) (by
      show 256 * blk0 t.val + (k0_off1 (grid0.coords t) (BitVec.ofNat 32 r.val) 0 + k.val) = 64 * bandRow (16 * t.val + r.val) + k.val; omega) rfl)

theorem v_ld (c : Dev nD) (t : Fin cfg0.N) (r : Fin 16) (h : Fin 4) (k : Fin 512) (j : Fin 256) :
    valuesAt (grid0.coords t) (valsAt m c t) r h (ix2 k j)
      = m ((c.tc : Thread nD τ).loc main_arg2) (ix2 ⟨64 * bandRow (imgRow t r).val + k.val, by have := bandRow_le (imgRow t r); omega⟩ ⟨256 * h.val + j.val, by omega⟩) := by
  have hb := band_at t r
  have hk := off1_le (grid0.coords t) r
  unfold valuesAt
  refine (to2 (valsAt m c t) (i := ⟨k0_off1 (grid0.coords t) (BitVec.ofNat 32 r.val) 0 + k.val, by omega⟩) (j := ⟨256 * h.val + j.val, by omega⟩) ?_ ?_).trans ?_
  · show k0_off1 (grid0.coords t) (BitVec.ofNat 32 r.val) 0 + 1 * k.val = _ + k.val; omega
  · show 256 * h.val + 1 * j.val = 256 * h.val + j.val; omega
  · exact (vals_at m c t _ _).trans (at2 (m ((c.tc : Thread nD τ).loc main_arg2)) (by
      show 256 * blk0 t.val + (k0_off1 (grid0.coords t) (BitVec.ofNat 32 r.val) 0 + k.val) = 64 * bandRow (16 * t.val + r.val) + k.val; omega) rfl)

theorem b_ld (c : Dev nD) (t : Fin cfg0.N) (r : Fin 16) (p : Fin 8) (a : Fin 128) (k : Fin 512) :
    View.ld (iblk m c 13 t) (Rect.unit (s := S8x8x128x512) (biasOff (grid0.coords t) r p) S1x1x128x512.size (bias_inb _ r p)) (ix4 0 0 a k)
      = m ((c.tc : Thread nD τ).loc main_arg3) (ix4 ⟨biasRow (imgRow t r).val, biasRow_lt _⟩ p a k) := by
  rw [table_at]
  refine to4 (m ((c.tc : Thread nD τ).loc main_arg3)) ?_ ?_ ?_ ?_
  · exact (Nat.add_zero _).trans (bias_at t r)
  · rfl
  · show 0 + 1 * a.val = a.val; omega
  · show 0 + 1 * k.val = k.val; omega

/-- The head of lane `l` of head pair `p`. -/
abbrev headOf (p : Fin 8) (l : Fin 128) : Fin 16 := ⟨2 * p.val + l.val / 64, by omega⟩

theorem scoresAt_row (c : Dev nD) (t : Fin cfg0.N) (r : Fin 16) (p : Fin 8) (a : Fin 64) (l : Fin 128) :
    (fun k => scoresAt (grid0.coords t) (iblk m c 0 t) (keysAt m c t) (iblk m c 13 t) r p (ix2 (headRow a l) k))
      = scoreRow (m ((c.tc : Thread nD τ).loc main_arg0)) (m ((c.tc : Thread nD τ).loc main_arg1)) (m ((c.tc : Thread nD τ).loc main_arg3))
          (imgRow t r) a (headOf p l) := by
  funext k
  unfold scoresAt scoreRow
  rw [scores_at]
  refine Ideal.add_congr (Finset.sum_congr rfl fun d _ => ?_) ?_
  · refine Ideal.mul_congr ((q_ld m c t r p a _).trans ?_) ((k_ld m c t r p k _).trans ?_)
    · exact at2 (m ((c.tc : Thread nD τ).loc main_arg0)) rfl (by show 128 * p.val + (64 * (l.val / 64) + d.val) = 64 * (2 * p.val + l.val / 64) + d.val; omega)
    · exact at2 (m ((c.tc : Thread nD τ).loc main_arg1)) rfl (by show 128 * p.val + (64 * (l.val / 64) + d.val) = 64 * (2 * p.val + l.val / 64) + d.val; omega)
  · refine (b_ld m c t r p _ k).trans (to4 (m ((c.tc : Thread nD τ).loc main_arg3)) rfl ?_ ?_ rfl)
    · show p.val = (2 * p.val + l.val / 64) / 2; omega
    · show 64 * (l.val / 64) + a.val = 64 * ((2 * p.val + l.val / 64) % 2) + a.val; omega

/-- The result at lane `l` of head pair `p`, query column `a`, image row `n`. -/
theorem attnOut_at (Q K V : Vec Ideal S16384x1024 .bf16) (T : Vec Ideal S8x8x128x512 .f32) (n : Fin 256) (p : Fin 8) (a : Fin 64) (l : Fin 128) :
    attnOut Q K V T (ix2 ⟨64 * n.val + a.val, by omega⟩ ⟨128 * p.val + l.val, by omega⟩)
      = ATT (scoreRow Q K T n a (headOf p l)) (valueRow V n ⟨128 * p.val + l.val, by omega⟩) := by
  have e1 : (⟨(64 * n.val + a.val) / 64, by omega⟩ : Fin 256) = n := Fin.ext (by show (64 * n.val + a.val) / 64 = n.val; omega)
  have e2 : (⟨(64 * n.val + a.val) % 64, by omega⟩ : Fin 64) = a := Fin.ext (by show (64 * n.val + a.val) % 64 = a.val; omega)
  have e3 : (⟨(128 * p.val + l.val) / 64, by omega⟩ : Fin 16) = headOf p l := Fin.ext (by show (128 * p.val + l.val) / 64 = 2 * p.val + l.val / 64; omega)
  show ATT (scoreRow Q K T ⟨(64 * n.val + a.val) / 64, _⟩ ⟨(64 * n.val + a.val) % 64, _⟩ ⟨(128 * p.val + l.val) / 64, _⟩)
    (valueRow V ⟨(64 * n.val + a.val) / 64, _⟩ _) = _
  rw [e1, e2, e3]
  rfl

/-- The result array, from the arguments. -/
abbrev result (c : Dev nD) : Vec Ideal S16384x1024 .bf16 :=
  attnOut (m ((c.tc : Thread nD τ).loc main_arg0)) (m ((c.tc : Thread nD τ).loc main_arg1)) (m ((c.tc : Thread nD τ).loc main_arg2)) (m ((c.tc : Thread nD τ).loc main_arg3))

/-- The part of the result array that grid point `t` writes. -/
def part (c : Dev nD) (t : Fin cfg0.N) : Vec Ideal S1024x1024 .bf16 := fun y =>
  result m c (ix2 ⟨1024 * t.val + (y 0).val, by have := t_lt t; have : (y 0).val < 1024 := (y 0).isLt; omega⟩ (y 1))

theorem even_part (c : Dev nD) (t : Fin cfg0.N) (r : Fin 16) (h : Fin 4) (a : Fin 64) (l : Fin 128) :
    (evenPiece (grid0.coords t) (iblk m c 0 t) (keysAt m c t) (valsAt m c t) (iblk m c 13 t) r h).2 (ix2 a l)
      = part m c t ((evenPiece (grid0.coords t) (iblk m c 0 t) (keysAt m c t) (valsAt m c t) (iblk m c 13 t) r h).1.emb (ix2 a l)) := by
  refine (even_at _ _ _ a l).trans ?_
  rw [scoresAt_row]
  refine Eq.trans ?_ ((attnOut_at _ _ _ _ (imgRow t r) (lo h) a l).symm.trans (at2 (result m c) ?_ ?_))
  · refine congrArg (ATT _) (funext fun k => (v_ld m c t r h k _).trans ?_)
    exact at2 (m ((c.tc : Thread nD τ).loc main_arg2)) rfl (by show 256 * h.val + l.val = 128 * (2 * h.val) + l.val; omega)
  · show 64 * (16 * t.val + r.val) + a.val = 1024 * t.val + (64 * r.val + 1 * a.val); omega
  · show 128 * (2 * h.val) + l.val = 128 * (2 * h.val) + 1 * l.val; omega

theorem odd_part (c : Dev nD) (t : Fin cfg0.N) (r : Fin 16) (h : Fin 4) (a : Fin 64) (l : Fin 128) :
    (oddPiece (grid0.coords t) (iblk m c 0 t) (keysAt m c t) (valsAt m c t) (iblk m c 13 t) r h).2 (ix2 a l)
      = part m c t ((oddPiece (grid0.coords t) (iblk m c 0 t) (keysAt m c t) (valsAt m c t) (iblk m c 13 t) r h).1.emb (ix2 a l)) := by
  refine (odd_at _ _ _ a l).trans ?_
  rw [scoresAt_row]
  refine Eq.trans ?_ ((attnOut_at _ _ _ _ (imgRow t r) (hi h) a l).symm.trans (at2 (result m c) ?_ ?_))
  · refine congrArg (ATT _) (funext fun k => (v_ld m c t r h k _).trans ?_)
    exact at2 (m ((c.tc : Thread nD τ).loc main_arg2)) rfl (by show 256 * h.val + (128 + l.val) = 128 * (2 * h.val + 1) + l.val; omega)
  · show 64 * (16 * t.val + r.val) + a.val = 1024 * t.val + (64 * r.val + 1 * a.val); omega
  · show 128 * (2 * h.val + 1) + l.val = 128 * (2 * h.val + 1) + 1 * l.val; omega

theorem pieces_part (c : Dev nD) (t : Fin cfg0.N) (y : S1024x1024.Idx) : View.canon (piecesAt m c t) y = part m c t y := by
  refine View.canon_apply_of_pieces (part m c t) (piecesAt m c t) (fun pc hp => ?_) y (piecesAt_cover m c t y)
  rw [piecesAt_eq] at hp
  obtain ⟨r, h, rfl | rfl⟩ := mem_stores _ _ _ _ _ _ _ hp
  · intro x
    rw [show x = ix2 (x 0) (x 1) from by funext z; match z with | 0 => rfl | 1 => rfl]
    exact even_part m c t r h _ _
  · intro x
    rw [show x = ix2 (x 0) (x 1) from by funext z; match z with | 0 => rfl | 1 => rfl]
    exact odd_part m c t r h _ _

theorem final (c : Dev nD) : (dats m 0 c).arrAt 14 cfg0.N = result m c := by
  refine (dats m 0 c).arrAt_eq_of_covers 14 _ (by decide +kernel) fun t hf y => ?_
  blk_simp
  rw [after0_14]
  refine (pieces_part m c t _).trans ?_
  unfold part
  generalize result m c = X
  idx_vars y
  blk_point [idx t]

end Cert.AttnIdeal.Hand
end
-- ==== Proof.AttnRefSteps.lean ====
/- The attention's reference over the extended reals in named steps, and its two tables of row numbers. -/
module

public import proofs.«01_k».proof.Proof.Gen.AttnRefIdeal.Run
public import proofs.«01_k».proof.Proof.AttnOut
public import Idealize.ShloMosaic.Lib.Routing.Ops
public import Idealize.ShloMosaic.Lib.Pointwise

@[expose] public section

set_option maxRecDepth 16384

noncomputable section

namespace Cert.AttnRefIdeal.Hand

open Cert.AttnRefIdeal Cert.AttnRefIdeal.Gen Idealize.ShloMosaic Idealize.ShloMosaic.TcCoe Idealize.SL.Sem Idealize.ShloMosaic.StableHlo
open Cert.AttnIdeal.Hand (bandRow biasRow)

/-- Where each image row's band starts. -/
def bandStart : IVec S8x32x8 32 :=
  minsi (broadcastInDim S8x32x8 ![] bcast_S_S8x32x8 (id (constantI S_ 32 24#32))) (maxsi (broadcastInDim S8x32x8 ![] bcast_S_S8x32x8 (id (constantI S_ 32 0#32))) (subi (iotaInDim S8x32x8 32 1) (broadcastInDim S8x32x8 ![] bcast_S_S8x32x8 (constantI S_ 32 4#32))))

/-- The image rows of every band. -/
def rowIdx0 : IVec S2048 32 :=
  shapeCast _ (addi (addi (muli (iotaInDim S8x32x8 32 0) (broadcastInDim S8x32x8 ![] bcast_S_S8x32x8 (constantI S_ 32 32#32))) bandStart) (iotaInDim S8x32x8 32 2)) shapeCasts_S8x32x8_S2048
def rowIdx : IVec S2048x1 32 :=
  broadcastInDim S2048x1 ![0] bcast_S2048_S2048x1_0 (select (cmpi .slt rowIdx0 (broadcastInDim S2048 ![] bcast_S_S2048 (constantI S_ 32 0#32))) (addi rowIdx0 (broadcastInDim S2048 ![] bcast_S_S2048 (constantI S_ 32 256#32))) rowIdx0)

/-- The bias row of every image row. -/
def offIdx0 : IVec S256 32 :=
  shapeCast _ (shapeCast _ (extractStridedSlice S8x32x1 ![0, 0, 0] (addi (subi bandStart (iotaInDim S8x32x8 32 1)) (broadcastInDim S8x32x8 ![] bcast_S_S8x32x8 (constantI S_ 32 7#32))) slices_S8x32x8_S8x32x1_0_0_0) shapeCasts_S8x32x1_S8x32) shapeCasts_S8x32_S256
def offIdx : IVec S256x1 32 :=
  broadcastInDim S256x1 ![0] bcast_S256_S256x1_0 (select (cmpi .slt offIdx0 (broadcastInDim S256 ![] bcast_S_S256 (constantI S_ 32 0#32))) (addi offIdx0 (broadcastInDim S256 ![] bcast_S_S256 (constantI S_ 32 8#32))) offIdx0)

/-- The rows of keys, or of values, in every band. -/
def bands (A : Vec Ideal S16384x1024 .bf16) : FVec Ideal S2048x65536 .f32 :=
  Host.gather gather_S256x65536_S2048x1_S2048x65536_1_0_n_n_0_1_165536 (shapeCast _ (extf .f32 A bitsLt_bf16_f32) shapeCasts_S16384x1024_S256x65536) rowIdx

/-- The bias of every image row. -/
def biases (T : Vec Ideal S8x8x128x512 .f32) : FVec Ideal S256x524288 .f32 :=
  Host.gather gather_S8x524288_S256x1_S256x524288_1_0_n_n_0_1_1524288 (shapeCast _ T shapeCasts_S8x8x128x512_S8x524288) offIdx

def scores (Q : Vec Ideal S16384x1024 .bf16) (GK : FVec Ideal S2048x65536 .f32) (GT : FVec Ideal S256x524288 .f32) : FVec Ideal S256x16x64x512 .f32 :=
  addf (Host.dotGeneral dot_S256x64x16x64_S256x512x16x64_S256x16x64x512_3_3_1_1_02_02 none (shapeCast _ (extf .f32 Q bitsLt_bf16_f32) shapeCasts_S16384x1024_S256x64x16x64) (shapeCast _ GK shapeCasts_S2048x65536_S256x512x16x64)) (shapeCast _ GT shapeCasts_S256x524288_S256x16x64x512)

/-- Every row's largest score. -/
def rowMax (s : FVec Ideal S256x16x64x512 .f32) : FVec Ideal S256x16x64 .f32 :=
  Host.reduce FloatOps.maximumf s (constant S_ .f32 0xFF800000#32) reducesTo_S256x16x64x512_S256x16x64_d3 h_S_

/-- The exponentials of the scores less a number for each row. -/
def shifted (s : FVec Ideal S256x16x64x512 .f32) (M : FVec Ideal S256x16x64 .f32) : FVec Ideal S256x16x64x512 .f32 :=
  Host.exp (subf s (broadcastInDim S256x16x64x512 ![0, 1, 2, 3] bcast_S256x16x64x1_S256x16x64x512_0_1_2_3 (broadcastInDim S256x16x64x1 ![0, 1, 2] bcast_S256x16x64_S256x16x64x1_0_1_2 (maximumf (broadcastInDim S256x16x64 ![] bcast_S_S256x16x64 (constant S_ .f32 0xFF800000#32)) M))))

def expos (s : FVec Ideal S256x16x64x512 .f32) : FVec Ideal S256x16x64x512 .f32 := shifted s (rowMax s)

def weights (e : FVec Ideal S256x16x64x512 .f32) : FVec Ideal S256x16x64x512 .f32 :=
  Host.divf e (broadcastInDim S256x16x64x512 ![0, 1, 2, 3] bcast_S256x16x64x1_S256x16x64x512_0_1_2_3 (broadcastInDim S256x16x64x1 ![0, 1, 2] bcast_S256x16x64_S256x16x64x1_0_1_2 (Host.reduceAdd e (constant S_ .f32 0x00000000#32) reducesTo_S256x16x64x512_S256x16x64_d3 h_S_)))

def combine (GV : FVec Ideal S2048x65536 .f32) (w : FVec Ideal S256x16x64x512 .f32) : FVec Ideal S16384x1024 .bf16 :=
  truncf .bf16 (shapeCast _ (transpose S256x64x16x64 [0, 3, 1, 2] (Host.dotGeneral dot_S256x512x16x64_S256x16x64x512_S256x16x64x64_1_3_3_2_02_01 none (shapeCast _ GV shapeCasts_S2048x65536_S256x512x16x64) w) transposes_S256x16x64x64_S256x64x16x64_0_3_1_2) shapeCasts_S256x64x16x64_S16384x1024) bitsLt_bf16_f32

variable (m : (ℓ : Loc nD τ sig) → Buf (Elt Ideal) ℓ)

theorem res_eq (c : Dev nD) : Value.res_out0 (F := Ideal) m c
    = combine (bands (m ((c.tc : Thread nD τ).loc main_arg2)))
        (weights (expos (scores (m ((c.tc : Thread nD τ).loc main_arg0)) (bands (m ((c.tc : Thread nD τ).loc main_arg1))) (biases (m ((c.tc : Thread nD τ).loc main_arg3)))))) := rfl

theorem rowIdx_at : ∀ (n : Fin 256) (j : Fin 8), rowIdx (ix2 ⟨8 * n.val + j.val, by omega⟩ 0) = BitVec.ofNat 32 (bandRow n.val + j.val) := by
  decide +kernel

theorem offIdx_at : ∀ n : Fin 256, offIdx (ix2 n 0) = BitVec.ofNat 32 (biasRow n.val) := by
  decide +kernel

end Cert.AttnRefIdeal.Hand
end
-- ==== Proof.AttnSoftmax.lean ====
/- Scores that are finite numbers: the softmax's weights before or after the products with the values. -/
module

public import proofs.«01_k».proof.Proof.AttnPure

@[expose] public section

noncomputable section

namespace Cert.AttnIdeal.Hand

open Idealize.ShloMosaic

/-- Neither infinity. -/
abbrev IsFin (x : EReal) : Prop := x ≠ ⊤ ∧ x ≠ ⊥

theorem ninf : Ideal.ofBits FTy.f32 4286578688#32 = ⊥ := by simp [Ideal.ofBits, Ideal.ieee]

theorem fin_mul {x y : EReal} (hx : IsFin x) (hy : IsFin y) : IsFin (x * y) := by
  lift x to ℝ using hx
  lift y to ℝ using hy
  exact ⟨EReal.coe_ne_top (x * y), EReal.coe_ne_bot (x * y)⟩

theorem fin_add {x y : EReal} (hx : IsFin x) (hy : IsFin y) : IsFin (x + y) := by
  lift x to ℝ using hx
  lift y to ℝ using hy
  exact ⟨EReal.coe_ne_top (x + y), EReal.coe_ne_bot (x + y)⟩

theorem fin_sum {ι : Type} (s : Finset ι) (f : ι → EReal) (h : ∀ i, IsFin (f i)) : IsFin (∑ i ∈ s, f i) := by
  classical
  induction s using Finset.induction_on with
  | empty => exact ⟨EReal.zero_ne_top, EReal.zero_ne_bot⟩
  | insert a s ha ih => rw [Finset.sum_insert ha]; exact fin_add (h a) ih

theorem sum_real {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem sum_mul_real {ι : Type} (s : Finset ι) (f : ι → EReal) {r : ℝ} (hr : 0 ≤ r) : (∑ i ∈ s, f i) * (r : EReal) = ∑ i ∈ s, f i * (r : EReal) := by
  classical
  induction s using Finset.induction_on with
  | empty => exact zero_mul _
  | insert a s ha ih =>
    rw [Finset.sum_insert ha, Finset.sum_insert ha, ← ih]
    exact EReal.right_distrib_of_nonneg_of_ne_top (EReal.coe_nonneg.2 hr) (EReal.coe_ne_top r) _ _

theorem max_fin (s : Fin 512 → EReal) (hs : ∀ k, IsFin (s k)) : IsFin (MX s) := by
  constructor
  · refine ne_of_lt ((Finset.fold_max_lt _).2 ⟨?_, fun k _ => lt_top_iff_ne_top.2 (hs k).1⟩)
    rw [ninf]; exact bot_lt_top
  · refine ne_of_gt (lt_of_lt_of_le (bot_lt_iff_ne_bot.2 (hs 0).2) ((Finset.le_fold_max _).2 (.inr ⟨0, Finset.mem_univ _, le_rfl⟩)))

/-- Scaling the products' sum, or each weight, by the reciprocal of the weights' sum. -/
theorem att_eq (s v : Fin 512 → EReal) (hs : ∀ k, IsFin (s k)) :
    ATT s v = ∑ k, v k * Ideal.div (EX s k) (∑ l, EX s l) := by
  have hM := max_fin s hs
  generalize hm : MX s = M at hM
  lift M to ℝ using hM
  have he : ∀ k, ∃ e : ℝ, 0 < e ∧ EX s k = (e : EReal) := fun k => by
    obtain ⟨hk, hk'⟩ := hs k
    unfold EX
    rw [hm]
    generalize s k = x at hk hk'
    lift x to ℝ using ⟨hk, hk'⟩
    exact ⟨Real.exp (x - M), Real.exp_pos _, by rw [← EReal.coe_sub, Ideal.exp_coe]⟩
  choose e hpos he using he
  unfold ATT
  simp only [he]
  rw [sum_real]
  have hL : 0 < ∑ l, e l := Finset.sum_pos (fun l _ => hpos l) ⟨0, Finset.mem_univ _⟩
  generalize (∑ l, e l) = L at hL
  simp only [Ideal.div_coe hL.ne', one_mul]
  rw [sum_mul_real _ _ (one_div_pos.2 hL).le]
  exact Finset.sum_congr rfl fun k _ => by rw [mul_comm ((e k : ℝ) : EReal), mul_assoc]

end Cert.AttnIdeal.Hand
end
-- ==== Proof.AttnRef.lean ====
/- The attention's reference over the extended reals read at an index. -/
module

public import proofs.«01_k».proof.Proof.AttnRefSteps
public import proofs.«01_k».proof.Proof.AttnSoftmax
public import Idealize.ShloMosaic.Lib.Routing.Ops
public import Idealize.ShloMosaic.Lib.Pointwise

@[expose] public section

set_option maxRecDepth 16384

noncomputable section

namespace Cert.AttnRefIdeal.Hand

open Cert.AttnRefIdeal Cert.AttnRefIdeal.Gen Idealize.ShloMosaic Idealize.ShloMosaic.TcCoe Idealize.SL.Sem Idealize.ShloMosaic.StableHlo
open Idealize.ShloMosaic.Routing (gather_row)
open Cert.AttnIdeal.Hand (bandRow biasRow bandRow_le biasRow_lt scoreRow valueRow attnOut to2 to4 EX MX att_eq IsFin fin_add fin_mul fin_sum)

theorem bands_at (A : Vec Ideal S16384x1024 .bf16) (n : Fin 256) (j : Fin 8) (x : Fin 65536) :
    bands A (ix2 ⟨8 * n.val + j.val, by omega⟩ x)
      = A (ix2 ⟨64 * (bandRow n.val + j.val) + x.val / 1024, by have := bandRow_le n; omega⟩ ⟨x.val % 1024, by omega⟩) := by
  have hb := bandRow_le n
  unfold bands
  refine (gather_row gather_S256x65536_S2048x1_S2048x65536_1_0_n_n_0_1_165536 rfl rfl rfl rfl rfl _ rowIdx ⟨8 * n.val + j.val, by omega⟩ x
    ⟨bandRow n.val + j.val, by omega⟩ (rowIdx_at n j) (by omega)).trans ?_
  pointwise
  exact to2 A (by show (bandRow n.val + j.val) * 64 + x.val / 1024 = 64 * (bandRow n.val + j.val) + x.val / 1024; omega) rfl

theorem biases_at (T : Vec Ideal S8x8x128x512 .f32) (n : Fin 256) (h : Fin 16) (a : Fin 64) (k : Fin 512) :
    biases T (ix2 n ⟨h.val * 32768 + a.val * 512 + k.val, by omega⟩)
      = T (ix4 ⟨biasRow n.val, biasRow_lt n⟩ ⟨h.val / 2, by omega⟩ ⟨64 * (h.val % 2) + a.val, by omega⟩ k) := by
  unfold biases
  refine (gather_row gather_S8x524288_S256x1_S256x524288_1_0_n_n_0_1_1524288 rfl rfl rfl rfl rfl _ offIdx n ⟨h.val * 32768 + a.val * 512 + k.val, by omega⟩
    ⟨biasRow n.val, biasRow_lt n⟩ (offIdx_at n) (by omega)).trans ?_
  pointwise
  refine to4 T rfl ?_ ?_ ?_
  · show (h.val * 32768 + a.val * 512 + k.val) / 65536 = h.val / 2; omega
  · show (h.val * 32768 + a.val * 512 + k.val) / 512 % 128 = 64 * (h.val % 2) + a.val; omega
  · show (h.val * 32768 + a.val * 512 + k.val) % 512 = k.val; omega

theorem scores_at (Q K : Vec Ideal S16384x1024 .bf16) (T : Vec Ideal S8x8x128x512 .f32) (n : Fin 256) (h : Fin 16) (a : Fin 64) (k : Fin 512) :
    scores Q (bands K) (biases T) (ix4 n h a k) = scoreRow Q K T n a h k := by
  pointwise [scores]
  unfold scoreRow
  refine Ideal.add_congr (Finset.sum_congr rfl fun d _ => Ideal.mul_congr ?_ ?_) (biases_at T n h a k)
  · exact to2 Q (by show n.val * 64 + a.val = 64 * n.val + a.val; omega) (by show h.val * 64 + d.val = 64 * h.val + d.val; omega)
  · refine (to2 (bands K) (i := ⟨8 * n.val + k.val / 64, by omega⟩) (j := ⟨k.val % 64 * 1024 + h.val * 64 + d.val, by omega⟩) ?_ rfl).trans ?_
    · show n.val * 8 + k.val / 64 = 8 * n.val + k.val / 64; omega
    refine (bands_at K n ⟨k.val / 64, by omega⟩ _).trans (to2 K ?_ ?_)
    · show 64 * (bandRow n.val + k.val / 64) + (k.val % 64 * 1024 + h.val * 64 + d.val) / 1024 = 64 * bandRow n.val + k.val; omega
    · show (k.val % 64 * 1024 + h.val * 64 + d.val) % 1024 = 64 * h.val + d.val; omega

/-- The host's maximum along the last of four axes is the fold along it. -/
theorem max_last {n0 n1 n2 n3 : ℕ} {u : Shape} (s : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (i : Fin n0) (j : Fin n1) (k : Fin n2) :
    Host.reduce (FloatOps.maximumf (F := Ideal) (φ := .f32)) s init h hu (ix3 i j k)
      = Finset.univ.fold max (init (Shape.Idx.first hu)) (fun l => s (ix4 i j k l)) := by
  rw [Host.reduce_eq_fold, Shape.ReducesTo.fold_fiber_r4_a3]
  rfl

theorem rowMax_at (s : FVec Ideal S256x16x64x512 .f32) (n : Fin 256) (h : Fin 16) (a : Fin 64) :
    rowMax s (ix3 n h a) = Finset.univ.fold max (Ideal.ofBits .f32 0xFF800000#32) (fun l => s (ix4 n h a l)) := by
  unfold rowMax
  exact max_last s _ _ _ n h a

theorem shifted_at (s : FVec Ideal S256x16x64x512 .f32) (M : FVec Ideal S256x16x64 .f32) (n : Fin 256) (h : Fin 16) (a : Fin 64) (k : Fin 512) :
    shifted s M (ix4 n h a k) = Ideal.exp (s (ix4 n h a k) - max (Ideal.ofBits .f32 0xFF800000#32) (M (ix3 n h a))) := by
  pointwise [shifted]

theorem expos_at (s : FVec Ideal S256x16x64x512 .f32) (n : Fin 256) (h : Fin 16) (a : Fin 64) (k : Fin 512) :
    expos s (ix4 n h a k) = EX (fun l => s (ix4 n h a l)) k := by
  unfold expos
  rw [shifted_at, rowMax_at, max_eq_right ((Finset.le_fold_max _).2 (.inl le_rfl))]

theorem weights_at (s : FVec Ideal S256x16x64x512 .f32) (n : Fin 256) (h : Fin 16) (a : Fin 64) (k : Fin 512) :
    weights s (ix4 n h a k) = Ideal.div (s (ix4 n h a k)) (∑ l, s (ix4 n h a l)) := by
  pointwise [weights]

theorem combine_at (V : Vec Ideal S16384x1024 .bf16) (w : FVec Ideal S256x16x64x512 .f32) (y0 : Fin 16384) (y1 : Fin 1024) :
    combine (bands V) w (ix2 y0 y1) = ∑ k, valueRow V ⟨y0.val / 64, by omega⟩ y1 k
      * (show EReal from w (ix4 ⟨y0.val / 64, by omega⟩ ⟨y1.val / 64, by omega⟩ ⟨y0.val % 64, by omega⟩ k)) := by
  pointwise [combine]
  refine Finset.sum_congr rfl fun k _ => Ideal.mul_congr ?_ rfl
  refine (to2 (bands V) (i := ⟨8 * (y0.val / 64) + k.val / 64, by omega⟩) (j := ⟨k.val % 64 * 1024 + y1.val, by omega⟩) ?_ ?_).trans ?_
  · show y0.val / 64 * 8 + k.val / 64 = 8 * (y0.val / 64) + k.val / 64; omega
  · show k.val % 64 * 1024 + y1.val / 64 * 64 + y1.val % 64 = k.val % 64 * 1024 + y1.val; omega
  refine (bands_at V ⟨y0.val / 64, by omega⟩ ⟨k.val / 64, by omega⟩ _).trans (to2 V ?_ ?_)
  · show 64 * (bandRow (y0.val / 64) + k.val / 64) + (k.val % 64 * 1024 + y1.val) / 1024 = 64 * bandRow (y0.val / 64) + k.val; omega
  · show (k.val % 64 * 1024 + y1.val) % 1024 = y1.val; omega

/-- With finite scores the reference's result is the kernel's array. -/
theorem out_eq (Q K V : Vec Ideal S16384x1024 .bf16) (T : Vec Ideal S8x8x128x512 .f32)
    (hQ : ∀ x, IsFin (Q x)) (hK : ∀ x, IsFin (K x)) (hT : ∀ x, IsFin (T x)) :
    combine (bands V) (weights (expos (scores Q (bands K) (biases T)))) = attnOut Q K V T := by
  funext y
  idx_vars y
  rw [combine_at]
  refine Eq.trans ?_ (att_eq (scoreRow Q K T ⟨y0.val / 64, by omega⟩ ⟨y0.val % 64, by omega⟩ ⟨y1.val / 64, by omega⟩) (valueRow V ⟨y0.val / 64, by omega⟩ y1) fun k => fin_add (fin_sum _ _ fun d => fin_mul (hQ _) (hK _)) (hT _)).symm
  refine Finset.sum_congr rfl fun k _ => Ideal.mul_congr rfl ?_
  rw [weights_at]
  simp only [expos_at, scores_at]

end Cert.AttnRefIdeal.Hand
end
-- ==== Proof.AttnValue.lean ====
/- The attention's precondition read back: every query, key and bias is finite, so the reference's result is the kernel's. -/
module

public import proofs.«01_k».proof.Defs
public import proofs.«01_k».proof.Proof.Gen.Pre_finite_scores
public import proofs.«01_k».proof.Proof.AttnRef
public import Idealize.ShloMosaic.Lib.ReduceAll

@[expose] public section

noncomputable section

namespace Cert.AttnClaim

open Idealize.ShloMosaic Idealize.ShloMosaic.TcCoe Idealize.SL.Sem
open Cert.AttnIdeal.Hand (IsFin)

/-- A number whose size is below the infinity is finite. -/
theorem fin_of_abs {x : EReal} (h : max x (-x) < ⊤) : IsFin x := by
  refine ⟨fun e => ?_, fun e => ?_⟩ <;> subst e <;> simp at h

theorem fin_of_cmp {x y : EReal} (hy : y = ⊤) (h : BitVec.ofBool (decide (max x (-x) < y)) = 1#1) : IsFin x := by
  subst hy
  by_cases hx : max x (-x) < ⊤
  · exact fin_of_abs hx
  · simp [hx] at h

theorem inf_bf16 : Ideal.ofBits .bf16 0x7F80#16 = ⊤ := by simp [Ideal.ofBits, Ideal.ieee]

theorem inf_f32 : Ideal.ofBits .f32 0x7F800000#32 = ⊤ := by simp [Ideal.ofBits, Ideal.ieee]

open Cert.Pre_finite_scores in
theorem finite_of_pre (Q K V : FVec Ideal S16384x1024 .bf16) (T : FVec Ideal S8x8x128x512 .f32)
    (h : Cert.Pre_finite_scores.fn (F := Ideal) Q K V T = fun _ => 1#1) :
    (∀ x, IsFin (Q x)) ∧ (∀ x, IsFin (K x)) ∧ ∀ x, IsFin (T x) := by
  have : Subsingleton S_.Idx := ⟨fun a b => funext fun z => z.elim0⟩
  have h0 := congrFun h (fun z => z.elim0)
  obtain ⟨h12, h3⟩ := IntOp.andi_eq_one.1 h0
  obtain ⟨h1, h2⟩ := IntOp.andi_eq_one.1 h12
  exact ⟨fun x => fin_of_cmp inf_bf16 (Host.reduce_andi_all _ _ _ _ _ h1 x), fun x => fin_of_cmp inf_bf16 (Host.reduce_andi_all _ _ _ _ _ h2 x),
    fun x => fin_of_cmp inf_f32 (Host.reduce_andi_all _ _ _ _ _ h3 x)⟩

end Cert.AttnClaim

end
-- ==== Proof.AttnClaim.lean ====
/- The attention's five claims: the frames from one run over any float interpretation, the idealized text, and the value. -/
module

public import proofs.«01_k».proof.Defs
public import proofs.«01_k».proof.Proof.Gen.Attn
public import proofs.«01_k».proof.Proof.Gen.AttnRefIdeal.Run
public import proofs.«01_k».proof.Proof.AttnFrame
public import proofs.«01_k».proof.Proof.AttnValue
public import Idealize.ShloMosaic.Lib.Claim

@[expose] public section

noncomputable section

namespace Cert.AttnClaim

open Idealize.ShloMosaic Idealize.ShloMosaic.TcCoe Idealize.SL.Sem

/-- The two programs' bodies are the same text. -/
theorem bodies_eq {F : FTy → Type} [FloatOps F] : Cert.Attn.defs₀ (F := F) = Cert.AttnIdeal.defs₀ (F := F) :=
  congrArg Defs.onTc (funext fun p => funext fun x => match p, x with
    | 0, (_, _) => rfl
    | ⟨_ + 1, h⟩, _ => absurd h (Nat.not_lt.2 (Nat.le_add_left _ _)))
theorem defs_eq {F : FTy → Type} [FloatOps F] : Cert.Attn.defs (F := F) = Cert.AttnIdeal.defs (F := F) :=
  congrArg (Pipeline.defs Cert.AttnIdeal.pcfgs) bodies_eq

theorem frame_kernel : Cert.quiescent_Attn := fun m g _ => by
  rw [defs_eq]
  exact Cert.AttnIdeal.Hand.frame (F := Bits) m g

theorem frame_ideal : Cert.quiescent_AttnIdeal := fun m g _ => Cert.AttnIdeal.Hand.frame (F := Ideal) m g

theorem frame_ideal_pre : Cert.quiescent_AttnIdeal_pre_finite_scores := fun m g _ => Cert.AttnIdeal.Hand.frame (F := Ideal) m g

theorem frame_reference : Cert.quiescent_AttnRefIdeal := fun m g _ =>
  (θ_run Cert.AttnRefIdeal.defs _ _).mono
    (fun r h => ⟨fun c => (h c).2, sem_eq_zero_of_no_sems (by decide) r.2⟩) (Cert.AttnRefIdeal.Value.run (F := Ideal) m g)

theorem frame_reference_pre : Cert.quiescent_AttnRefIdeal_pre_finite_scores := fun m g _ => frame_reference m g trivial

theorem preserves : Cert.preserves_Attn_AttnIdeal := trivial

/-- With finite queries, keys and biases both programs leave the same array. -/
theorem algebraic : Cert.algebraic_AttnIdeal_AttnRefIdeal_pre_finite_scores := by
  intro m g m' g' hpre hargs
  refine ⟨fun c => Cert.AttnIdeal.Hand.result m c,
    (θ_run Cert.AttnIdeal.defs _ _).mono (fun _ h c => ⟨(h.1 c).1.trans (Cert.AttnIdeal.Hand.final m c), (h.1 c).2⟩)
      (Cert.AttnIdeal.Hand.run_result (F := Ideal) m g),
    (θ_run Cert.AttnRefIdeal.defs _ _).mono (fun _ h c => ⟨(h c).1.trans ?_, (h c).2⟩) (Cert.AttnRefIdeal.Value.run (F := Ideal) m' g')⟩
  obtain ⟨hQ, hK, hT⟩ := finite_of_pre _ _ _ _ (hpre c)
  obtain ⟨e0, e1, e2, e3⟩ := hargs c
  refine (Cert.AttnRefIdeal.Hand.res_eq m' c).trans ?_
  rw [e0, e1, e2, e3]
  exact Cert.AttnRefIdeal.Hand.out_eq _ _ _ _ hQ hK hT

end Cert.AttnClaim
end
-- ==== Proof.Whole.lean ====
/- Loads and stores through a whole block. -/
module

public import Idealize.ShloMosaic.Lib.Pipeline.Value
public import Idealize.ShloMosaic.Lib.Tactic

@[expose] public section

noncomputable section

namespace Cert.Whole

open Idealize.ShloMosaic Idealize.SL

variable {F : FTy → Type} [FloatOps F] {sig : RefSig}

theorem zero2 : (![0, 0] : Fin 2 → ℕ) = fun _ => 0 := by decide

/-- A store through the whole block leaves its payload. -/
theorem read_store {κ : Kind} {sp : Space} {s : Shape} {e : EltTy} (v : View sig κ sp s e) (f : v.ty.Contents (Elt F)) {o : Fin s.rank → ℕ} (h : o = fun _ => 0)
    (inb : ∀ a, o a + s.size a ≤ s.size a) (w : s.Idx → Elt F e) (L : List (View.Piece (Elt F) s e)) :
    v.read (Elt F) (v.writes (Elt F) f (⟨Rect.unit o s.size inb, w⟩ :: L)) = w := by
  subst h; funext y
  have e := View.read_writes_cons_emb v f (Rect.whole s) w L y
  rw [Rect.emb_whole_apply] at e
  exact e

/-- A load through the whole block reads it. -/
theorem readAt_all {κ : Kind} {sp : Space} {s : Shape} {e : EltTy} (v : View sig κ sp s e) (f : v.ty.Contents (Elt F)) {o : Fin s.rank → ℕ} (h : o = fun _ => 0)
    (inb : ∀ a, o a + s.size a ≤ s.size a) :
    v.readAt (Elt F) (Rect.unit o s.size inb).toLoadRect f = v.read (Elt F) f := by
  subst h; funext y
  show v.read (Elt F) f ((Rect.whole s).emb y) = _
  rw [Rect.emb_whole_apply]

/-- A load through the whole block of a whole write reads what was written. -/
theorem readCov_all {κ : Kind} {sp : Space} {s : Shape} {e : EltTy} (v : View sig κ sp s e) (w : s.Idx → Elt F e) {o : Fin s.rank → ℕ} (h : o = fun _ => 0)
    (inb : ∀ a, o a + s.size a ≤ s.size a) :
    v.readCov (Val := Elt F) [⟨Rect.whole s, w⟩] (Rect.unit o s.size inb).toLoadRect = w :=
  (readAt_all v _ h inb).trans (View.read_writes_whole v _ w)

end Cert.Whole

end
-- ==== Proof.FfnBody.lean ====
/- The feed-forward kernel's body: the runs of one grid point, by what the point does — start the first row tile's
   transfer, wait for a tile and take its first chunk, start the next tile's transfer, add a chunk, add the last one. -/
module

public import proofs.«01_k».proof.Proof.Gen.FfnIdeal.Frame
public import proofs.«01_k».proof.Proof.Gen.FfnIdeal.Skeleton
public import proofs.«01_k».proof.Proof.Whole
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnIdeal.Gen Cert.Whole

variable {F : FTy → Type} [FloatOps F]

local notation "𝕄" => MT nD τ sig Unit (Elt F) ℕ (Pipeline.UD sig nD τ) ℕ

/-- The rows' array in HBM, the tile buffer, the normalized tile's buffer. -/
abbrev hbM : Memref sig .tc .hbm S16384x2048 .f32 := Memref.whole main_arg0
abbrev tbM : Memref sig .tc .vmem S1024x2048 .f32 := Memref.whole cc0_scratch0
abbrev xnM : Memref sig .tc .vmem S1024x2048 .bf16 := Memref.whole cc0_scratch2
abbrev sm : DmaSem sig := 10

/-- The rows at offset `o`. -/
abbrev tileM (o : Fin 2 → ℕ) (h : ∀ a, o a + S1024x2048.size a ≤ S16384x2048.size a) : Memref sig .tc .hbm S1024x2048 .f32 :=
  hbM.slice (Rect.unit (s := S16384x2048) o S1024x2048.size h) (fun _ => rfl)

/-- The array's contents; the tile's buffer's. -/
abbrev HBuf (c : Dev nD) : Type := Buf (Elt F) (hbM.view.loc (c : Thread nD τ))
abbrev TBuf (c : Dev nD) : Type := Buf (Elt F) (tbM.view.loc (c : Thread nD τ))

abbrev tileOf (c : Dev nD) (X : HBuf (F := F) c) (o : Fin 2 → ℕ) (h : ∀ a, o a + S1024x2048.size a ≤ S16384x2048.size a) :
    Vec F S1024x2048 .f32 :=
  (tileM o h).view.read (Elt F) X

abbrev hbPt (c : Dev nD) (X : HBuf (F := F) c) : sProp 𝕄 := hbM.view.loc (c : Thread nD τ) ↦[hbM.view.set]{fullShare} X
abbrev tbPt (c : Dev nD) (f : TBuf (F := F) c) : sProp 𝕄 := tbM.view.loc (c : Thread nD τ) ↦[tbM.view.set]{fullShare} f

/-- The transfer of the rows at `o` into the tile buffer under way, with the rest of the array. -/
abbrev flying (c : Dev nD) (X : HBuf (F := F) c) (o : Fin 2 → ℕ) (h : ∀ a, o a + S1024x2048.size a ≤ S16384x2048.size a)
    (f : TBuf (F := F) c) : sProp 𝕄 :=
  iprop(Transfers.Flight (countersEmb (U := Pipeline.UD sig nD τ)) (c : Thread nD τ) (.dma sm) () (tbM.view.amount (SemLoc.dma (sig := sig) sm))
      iprop((tbM.view.loc (c : Thread nD τ) ↦[tbM.view.set]{fullShare} tbM.view.writes (Elt F) f [⟨Rect.whole _, ReadAs.same.apply (tileOf c X o h)⟩])
        ∗ ((tileM o h).view.loc (c : Thread nD τ) ↦[(tileM o h).view.set]{fullShare} X))
    ∗ (hbM.view.loc (c : Thread nD τ) ↦[hbM.view.set \ (tileM o h).view.set]{fullShare} X))

theorem hsub (o : Fin 2 → ℕ) (h : ∀ a, o a + S1024x2048.size a ≤ S16384x2048.size a) : (tileM o h).view.set ⊆ hbM.view.set :=
  View.set_slice_subset _ _

set_option maxHeartbeats 2000000 in
/-- The first point: start the first tile's transfer, wait for it, normalize it and take the first chunk. -/
theorem runA (c : Dev nD) (i : grid0.Coords) (h1 : (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (h2 : (k0_cond2 i = 1#1)) (h3 : ¬ (k0_cond3 i = 1#1)) (h4 : ¬ (k0_cond4 i = 1#1)) (h5 : ¬ (k0_cond5 i = 1#1)) (X : HBuf (F := F) c) (W : Waits sig Unit)
    (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (x0 : Vec F S1x2048 .f32) (x1 : Vec F S2048x512 .bf16) (x2 : Vec F S2048x512 .bf16) (x3 : Vec F S512x2048 .bf16) (x4 : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) xnM fullShare d) ∗ semVal ((c : Thread nD τ), SemLoc.dma sm) 0 ∗ (∃ f, tbPt c f) ∗ hbPt c X ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay1 (k0_pay6 (tileOf c X ![0, 0] inb_S16384x2048_S1024x2048_0_0) x0 x1 x2) (tileOf c X ![0, 0] inb_S16384x2048_S1024x2048_0_0) x3) ∗ owns (c : Thread nD τ) xnM fullShare (k0_pay5 (tileOf c X ![0, 0] inb_S16384x2048_S1024x2048_0_0) x0) ∗ semVal ((c : Thread nD τ), SemLoc.dma sm) 0 ∗ (∃ f, tbPt c f) ∗ hbPt c X ∗ (∃ W', owes (c : Thread nD τ) 0 W')) -∗ K ⟨⟩))
      ⊢ wp frame (wpE (defs₀ (F := F)) Variants.none c none) Set.univ (cc0_ffn_final i hbM (Memref.isWhole_whole _) arg3 harg3 arg4 harg4 arg5 harg5 arg6 harg6 arg7 harg7 arg8 harg8 tbM (Memref.isWhole_whole _) cc0_scratch1 xnM (Memref.isWhole_whole _)) K := by
  simp only [cc0_ffn_final_eq_skeleton]; unfold cc0_ffn_final_skel
  simp only [dif_pos h1, dif_pos h2, dif_neg h3, dif_neg h4, dif_neg h5, k0_part1_eq_skeleton, k0_part1_skel]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%dx, %fx, -, Hx⟩, Hq, ⟨%ft, Ht⟩, Hh, HW, Hk⟩
  obtain rfl := harg3.eq_unread hf0; obtain rfl := harg4.eq_unread hf1; obtain rfl := harg5.eq_unread hf2; obtain rfl := harg6.eq_unread hf3; obtain rfl := harg7.eq_unread hf4
  sl_exec
  sl_step
  have hv : runA.sl.v24 c X = (tileOf c X ![0, 0] inb_S16384x2048_S1024x2048_0_0) := readCov_all (s := S1024x2048) tbM.view (tileOf c X ![0, 0] inb_S16384x2048_S1024x2048_0_0) zero2 inb_S1024x2048_S1024x2048_0_0
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H8]
  · iexists _; isplitr; swap; (· iexact H8); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4]; rw [hv]
  isplitl [Hx]
  · iexists _; isplitr; swap; (· iexact Hx); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4]; rw [hv]
  isplitl [Hq]; · iexact Hq
  isplitl [Ht]; · iexists _; iexact Ht
  isplitl [Hh]; · iexact Hh
  iexists _; iexact HW

set_option maxHeartbeats 2000000 in
/-- A later tile's first point: wait for the tile, normalize it and take the first chunk. -/
theorem runB (c : Dev nD) (i : grid0.Coords) (h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (h2 : (k0_cond2 i = 1#1)) (h3 : ¬ (k0_cond3 i = 1#1)) (h4 : ¬ (k0_cond4 i = 1#1)) (h5 : ¬ (k0_cond5 i = 1#1)) (X : HBuf (F := F) c) (W : Waits sig Unit) (o : Fin 2 → ℕ) (ho : ∀ a, o a + S1024x2048.size a ≤ S16384x2048.size a)
    (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (x0 : Vec F S1x2048 .f32) (x1 : Vec F S2048x512 .bf16) (x2 : Vec F S2048x512 .bf16) (x3 : Vec F S512x2048 .bf16) (x4 : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) xnM fullShare d) ∗ (∃ f, flying c X o ho f) ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay1 (k0_pay6 (tileOf c X o ho) x0 x1 x2) (tileOf c X o ho) x3) ∗ owns (c : Thread nD τ) xnM fullShare (k0_pay5 (tileOf c X o ho) x0) ∗ semVal ((c : Thread nD τ), SemLoc.dma sm) 0 ∗ (∃ f, tbPt c f) ∗ hbPt c X ∗ (∃ W', owes (c : Thread nD τ) 0 W')) -∗ K ⟨⟩))
      ⊢ wp frame (wpE (defs₀ (F := F)) Variants.none c none) Set.univ (cc0_ffn_final i hbM (Memref.isWhole_whole _) arg3 harg3 arg4 harg4 arg5 harg5 arg6 harg6 arg7 harg7 arg8 harg8 tbM (Memref.isWhole_whole _) cc0_scratch1 xnM (Memref.isWhole_whole _)) K := by
  simp only [cc0_ffn_final_eq_skeleton]; unfold cc0_ffn_final_skel
  simp only [dif_neg h1, dif_pos h2, dif_neg h3, dif_neg h4, dif_neg h5, k0_part1_eq_skeleton, k0_part1_skel]
  unfold owns flying tileM
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%dx, %fx, -, Hx⟩, ⟨%ft, HF, Hh⟩, HW, Hk⟩
  obtain rfl := harg3.eq_unread hf0; obtain rfl := harg4.eq_unread hf1; obtain rfl := harg5.eq_unread hf2; obtain rfl := harg6.eq_unread hf3; obtain rfl := harg7.eq_unread hf4
  sl_exec
  sl_step
  have hv : runB.sl.v24 c X o ho = (tileOf c X o ho) := readCov_all (s := S1024x2048) tbM.view (tileOf c X o ho) zero2 inb_S1024x2048_S1024x2048_0_0
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H8]
  · iexists _; isplitr; swap; (· iexact H8); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4]; rw [hv]
  isplitl [Hx]
  · iexists _; isplitr; swap; (· iexact Hx); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4]; rw [hv]
  isplitl [HF]; · iexact HF
  isplitl [HF_dst]; · iexists _; iexact HF_dst
  isplitl [Hh]; · iexact Hh
  iexists _; iexact HW

set_option maxHeartbeats 2000000 in
/-- The second point of a tile: start the next tile's transfer, add a chunk. -/
theorem runC (c : Dev nD) (i : grid0.Coords) (h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (h2 : ¬ (k0_cond2 i = 1#1)) (h3 : (k0_cond3 i = 1#1)) (h4 : (k0_cond4 i = 1#1)) (h5 : ¬ (k0_cond5 i = 1#1)) (X : HBuf (F := F) c) (acc : Vec F S1024x2048 .f32) (xn : Vec F S1024x2048 .bf16)
    (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (x0 : Vec F S1x2048 .f32) (x1 : Vec F S2048x512 .bf16) (x2 : Vec F S2048x512 .bf16) (x3 : Vec F S512x2048 .bf16) (x4 : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare acc ∗ owns (c : Thread nD τ) xnM fullShare xn ∗ semVal ((c : Thread nD τ), SemLoc.dma sm) 0 ∗ (∃ f, tbPt c f) ∗ hbPt c X
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay2 xn x1 x2 acc x3) ∗ owns (c : Thread nD τ) xnM fullShare xn ∗ (∃ f, flying c X (k0_off2 i) (k0_off2_inb i h3) f)) -∗ K ⟨⟩))
      ⊢ wp frame (wpE (defs₀ (F := F)) Variants.none c none) Set.univ (cc0_ffn_final i hbM (Memref.isWhole_whole _) arg3 harg3 arg4 harg4 arg5 harg5 arg6 harg6 arg7 harg7 arg8 harg8 tbM (Memref.isWhole_whole _) cc0_scratch1 xnM (Memref.isWhole_whole _)) K := by
  simp only [cc0_ffn_final_eq_skeleton]; unfold cc0_ffn_final_skel
  simp only [dif_neg h1, dif_neg h2, dif_pos h3, dif_pos h4, dif_neg h5]
  unfold owns flying tileM
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%fx, %hfx, Hx⟩, Hq, ⟨%ft, Ht⟩, Hh, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H8]
  · iexists _; isplitr; swap; (· iexact H8); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4, hf8, hfx]
  isplitl [Hx]
  · iexists _; isplitr; swap; (· iexact Hx); ipureintro; exact hfx
  iexists _
  isplitl [Hq]; · iexact Hq
  iexact Hh

set_option maxHeartbeats 2000000 in
/-- Any other point of a tile before the last: add a chunk. -/
theorem runD (c : Dev nD) (i : grid0.Coords) (h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (h2 : ¬ (k0_cond2 i = 1#1)) (h3 : ¬ (k0_cond3 i = 1#1)) (h4 : (k0_cond4 i = 1#1)) (h5 : ¬ (k0_cond5 i = 1#1)) (acc : Vec F S1024x2048 .f32) (xn : Vec F S1024x2048 .bf16)
    (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (x0 : Vec F S1x2048 .f32) (x1 : Vec F S2048x512 .bf16) (x2 : Vec F S2048x512 .bf16) (x3 : Vec F S512x2048 .bf16) (x4 : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare acc ∗ owns (c : Thread nD τ) xnM fullShare xn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay2 xn x1 x2 acc x3) ∗ owns (c : Thread nD τ) xnM fullShare xn) -∗ K ⟨⟩))
      ⊢ wp frame (wpE (defs₀ (F := F)) Variants.none c none) Set.univ (cc0_ffn_final i hbM (Memref.isWhole_whole _) arg3 harg3 arg4 harg4 arg5 harg5 arg6 harg6 arg7 harg7 arg8 harg8 tbM (Memref.isWhole_whole _) cc0_scratch1 xnM (Memref.isWhole_whole _)) K := by
  simp only [cc0_ffn_final_eq_skeleton]; unfold cc0_ffn_final_skel
  simp only [dif_neg h1, dif_neg h2, dif_neg h3, dif_pos h4, dif_neg h5]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%fx, %hfx, Hx⟩, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H8]
  · iexists _; isplitr; swap; (· iexact H8); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4, hf8, hfx]
  iexists _; isplitr; swap; (· iexact Hx); ipureintro; exact hfx

set_option maxHeartbeats 2000000 in
/-- A tile's last point: add the last chunk and normalize the sum. -/
theorem runE (c : Dev nD) (i : grid0.Coords) (h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (h2 : ¬ (k0_cond2 i = 1#1)) (h3 : ¬ (k0_cond3 i = 1#1)) (h4 : ¬ (k0_cond4 i = 1#1)) (h5 : (k0_cond5 i = 1#1)) (acc : Vec F S1024x2048 .f32) (xn : Vec F S1024x2048 .bf16)
    (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (x0 : Vec F S1x2048 .f32) (x1 : Vec F S2048x512 .bf16) (x2 : Vec F S2048x512 .bf16) (x3 : Vec F S512x2048 .bf16) (x4 : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare acc ∗ owns (c : Thread nD τ) xnM fullShare xn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay3 (k0_pay7 xn x1 x2 acc x3) (k0_pay8 x4)) ∗ owns (c : Thread nD τ) xnM fullShare xn) -∗ K ⟨⟩))
      ⊢ wp frame (wpE (defs₀ (F := F)) Variants.none c none) Set.univ (cc0_ffn_final i hbM (Memref.isWhole_whole _) arg3 harg3 arg4 harg4 arg5 harg5 arg6 harg6 arg7 harg7 arg8 harg8 tbM (Memref.isWhole_whole _) cc0_scratch1 xnM (Memref.isWhole_whole _)) K := by
  simp only [cc0_ffn_final_eq_skeleton]; unfold cc0_ffn_final_skel
  simp only [dif_neg h1, dif_neg h2, dif_neg h3, dif_neg h4, dif_pos h5, k0_part2_eq_skeleton, k0_part2_skel]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%fx, %hfx, Hx⟩, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H8]
  · iexists _; isplitr; swap; (· iexact H8); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4, hf8, hfx]
  iexists _; isplitr; swap; (· iexact Hx); ipureintro; exact hfx

end Cert.FfnIdeal.Hand
end
-- ==== Proof.FfnFrame.lean ====
/- The frame of the feed-forward kernel: what each grid point finds and leaves, with the one tile transfer that crosses
   points carried in the invariant. -/
module

public import proofs.«01_k».proof.Proof.Gen.FfnIdeal.Frame
public import proofs.«01_k».proof.Proof.FfnBody
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The tiles and the values point by point -/

/-- Where row tile `b` starts. -/
abbrev off (b : ℕ) : Fin 2 → ℕ := ![1024 * (b % 16), 0]
theorem off_inb (b : ℕ) : ∀ a, off b a + S1024x2048.size a ≤ S16384x2048.size a := by
  intro a; have := Nat.mod_lt b (show 0 < 16 by omega)
  match a with
  | 0 => show 1024 * (b % 16) + 1024 ≤ 16384; omega
  | 1 => show 0 + 2048 ≤ 2048; omega

def tileAt (c : Dev nD) (b : ℕ) : Vec F S1024x2048 .f32 := tileOf c (V m c main_arg0) (off b) (off_inb b)

theorem N_pos : 0 < cfg0.N := by decide

/-- Row tile `b` normalized. -/
def xnAt (c : Dev nD) (b : ℕ) : Vec F S1024x2048 .bf16 := k0_pay5 (tileAt m c b) (iblk m c 0 ⟨0, N_pos⟩)
theorem xnAt_eq (c : Dev nD) (b : ℕ) (t : Fin cfg0.N) : xnAt m c b = k0_pay5 (tileAt m c b) (iblk m c 0 t) := rfl

/-- The output's block after point `n`. -/
def outsAt (c : Dev nD) : ℕ → Vec F S1024x2048 .f32
  | 0 => step 0 (tileAt m c 0)
  | n + 1 => step (n + 1) (outsAt c n)
where
  step (n : ℕ) (acc : Vec F S1024x2048 .f32) : Vec F S1024x2048 .f32 :=
    if h : n < cfg0.N then
      if n % 11 = 0 then k0_pay1 (k0_pay6 (tileAt m c (n / 11)) (iblk m c 0 ⟨n, h⟩) (iblk m c 1 ⟨n, h⟩) (iblk m c 2 ⟨n, h⟩)) (tileAt m c (n / 11)) (iblk m c 3 ⟨n, h⟩)
      else if n % 11 = 10 then k0_pay3 (k0_pay7 (xnAt m c (n / 11)) (iblk m c 1 ⟨n, h⟩) (iblk m c 2 ⟨n, h⟩) acc (iblk m c 3 ⟨n, h⟩)) (k0_pay8 (iblk m c 4 ⟨n, h⟩))
      else k0_pay2 (xnAt m c (n / 11)) (iblk m c 1 ⟨n, h⟩) (iblk m c 2 ⟨n, h⟩) acc (iblk m c 3 ⟨n, h⟩)
    else acc

theorem outsAt_A (c : Dev nD) (t : Fin cfg0.N) (h : t.val % 11 = 0) :
    outsAt m c t.val = k0_pay1 (k0_pay6 (tileAt m c (t.val / 11)) (iblk m c 0 t) (iblk m c 1 t) (iblk m c 2 t)) (tileAt m c (t.val / 11)) (iblk m c 3 t) := by
  obtain ⟨n, hn⟩ := t
  cases n with
  | zero => unfold outsAt outsAt.step; rw [dif_pos hn, if_pos h]
  | succ n => unfold outsAt outsAt.step; rw [dif_pos hn, if_pos h]
theorem outsAt_B (c : Dev nD) (t : Fin cfg0.N) (h : t.val % 11 ≠ 0) (h' : t.val % 11 ≠ 10) :
    outsAt m c t.val = k0_pay2 (xnAt m c (t.val / 11)) (iblk m c 1 t) (iblk m c 2 t) (outsAt m c (t.val - 1)) (iblk m c 3 t) := by
  obtain ⟨n, hn⟩ := t
  cases n with
  | zero => exact absurd rfl h
  | succ n => rw [outsAt]; unfold outsAt.step; rw [dif_pos hn, if_neg h, if_neg h']; rfl
theorem outsAt_C (c : Dev nD) (t : Fin cfg0.N) (h : t.val % 11 = 10) :
    outsAt m c t.val = k0_pay3 (k0_pay7 (xnAt m c (t.val / 11)) (iblk m c 1 t) (iblk m c 2 t) (outsAt m c (t.val - 1)) (iblk m c 3 t)) (k0_pay8 (iblk m c 4 t)) := by
  obtain ⟨n, hn⟩ := t
  cases n with
  | zero => dsimp only at h; omega
  | succ n =>
    have h0 : ¬ ((⟨n + 1, hn⟩ : Fin cfg0.N).val % 11 = 0) := by omega
    rw [outsAt]; unfold outsAt.step; rw [dif_pos hn, if_neg h0, if_pos h]; rfl

/-! ## The invariant -/

/-- Before point `n` the transfer of tile `(n + 9) / 11` is under way. -/
def flies (n : ℕ) : Prop := 1 ≤ (n + 9) / 11 ∧ (n + 9) / 11 < 16 ∧ n % 11 ≠ 1
instance (n : ℕ) : Decidable (flies n) := by unfold flies; infer_instance

def xnPart (c : Dev nD) (n : ℕ) : sProp 𝕄 :=
  if n % 11 = 0 then iprop(∃ d, owns (c : Thread nD τ) (xnM : Memref sig .tc .vmem S1024x2048 .bf16) fullShare d)
  else owns (c : Thread nD τ) (xnM : Memref sig .tc .vmem S1024x2048 .bf16) fullShare (xnAt m c (n / 11))
def ring (c : Dev nD) (n : ℕ) : sProp 𝕄 :=
  if flies n then iprop(∃ f, flying c (V m c main_arg0) (off ((n + 9) / 11)) (off_inb _) f)
  else iprop(semVal ((c : Thread nD τ), SemLoc.dma sm) 0 ∗ (∃ f, tbPt c f) ∗ hbPt c (V m c main_arg0))

theorem xnPart_first (c : Dev nD) {n : ℕ} (h : n % 11 = 0) :
    xnPart m c n = iprop(∃ d, owns (c : Thread nD τ) (xnM : Memref sig .tc .vmem S1024x2048 .bf16) fullShare d) := if_pos h
theorem xnPart_rest (c : Dev nD) {n : ℕ} (h : ¬ n % 11 = 0) :
    xnPart m c n = owns (c : Thread nD τ) (xnM : Memref sig .tc .vmem S1024x2048 .bf16) fullShare (xnAt m c (n / 11)) := if_neg h
theorem ring_flies (c : Dev nD) {n : ℕ} (h : flies n) :
    ring m c n = iprop(∃ f, flying c (V m c main_arg0) (off ((n + 9) / 11)) (off_inb _) f) := if_pos h
theorem ring_free (c : Dev nD) {n : ℕ} (h : ¬ flies n) :
    ring m c n = iprop(semVal ((c : Thread nD τ), SemLoc.dma sm) 0 ∗ (∃ f, tbPt c f) ∗ hbPt c (V m c main_arg0)) := if_neg h
theorem ring_succ (c : Dev nD) {n : ℕ} (h : n % 11 ≠ 0) (h' : ¬ (n % 11 = 1 ∧ n / 11 < 15)) (hn : n < 176) : ring m c (n + 1) = ring m c n := by
  by_cases e : flies n
  · have e' : flies (n + 1) := by unfold flies at *; omega
    rw [ring_flies m c e, ring_flies m c e']
    have : (n + 1 + 9) / 11 = (n + 9) / 11 := by unfold flies at *; omega
    rw [this]
  · have e' : ¬ flies (n + 1) := by unfold flies at *; omega
    rw [ring_free m c e, ring_free m c e']

theorem flying_ex (c : Dev nD) {o o' : Fin 2 → ℕ} (e : o = o') (h : ∀ a, o a + S1024x2048.size a ≤ S16384x2048.size a)
    (h' : ∀ a, o' a + S1024x2048.size a ≤ S16384x2048.size a) :
    (iprop(∃ f, flying c (V m c main_arg0) o h f) : sProp 𝕄) = iprop(∃ f, flying c (V m c main_arg0) o' h' f) := by subst e; rfl

/-! ## The grid's points -/

theorem c1 : ∀ t : Fin grid0.N, (Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32) = 1#1 ↔ t.val = 0 := by decide +kernel
theorem c2 : ∀ t : Fin grid0.N, k0_cond2 (grid0.coords t) = 1#1 ↔ t.val % 11 = 0 := by decide +kernel
theorem c3 : ∀ t : Fin grid0.N, k0_cond3 (grid0.coords t) = 1#1 ↔ t.val % 11 = 1 ∧ t.val / 11 < 15 := by decide +kernel
theorem c4 : ∀ t : Fin grid0.N, k0_cond4 (grid0.coords t) = 1#1 ↔ 1 ≤ t.val % 11 ∧ t.val % 11 ≤ 9 := by decide +kernel
theorem c5 : ∀ t : Fin grid0.N, k0_cond5 (grid0.coords t) = 1#1 ↔ t.val % 11 = 10 := by decide +kernel
theorem coord0 : ∀ t : Fin grid0.N, (grid0.coords t 0).val = t.val / 11 := by decide +kernel
theorem live5 : ∀ i : cfg0.grid.Coords, cfg0.idle 5 i = false := by decide +kernel

theorem off_next (t : Fin cfg0.N) (h : t.val % 11 = 1) (h' : t.val / 11 < 15) : off ((t.val + 1 + 9) / 11) = k0_off2 (grid0.coords t) := by
  rw [k0_off2_eq, coord0 t]
  have : 1024 * ((t.val + 1 + 9) / 11 % 16) = 1024 * (t.val / 11) + 1024 := by omega
  unfold off; rw [this]

/-! ## The proof data -/

abbrev osem0 : Fin 1 → SemLoc sig := fun j => (![SemLoc.dma 10] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 10) 0 := by
  rw [Pipeline.ownSems0_eq_of_list c osem0 [0] (by decide) (by decide)]; rfl
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄) = (((c : Thread nD τ).loc main_arg0) ↦{fullShare} V m c main_arg0) := by
  rw [BI.bigSep_eq_bigSepL_of_eq [main_arg0] (by decide) (by decide)]; rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t.val
  Φ n := iprop((∃ r, prngReg c r) ∗ xnPart m c n.val ∗ ring m c n.val)
  q _ := fullShare
  owed _ := 0

theorem A_eq (c : Dev nD) (w : Fin cfg0.W) : (dats m 0 c).A w = V m c (Pipeline.arrRef spec0 w) := by dsimp only [dats]
theorem Phi_eq (c : Dev nD) (n : Fin (cfg0.N + 1)) : (dats m 0 c).Φ n = iprop((∃ r, prngReg c r) ∗ xnPart m c n.val ∗ ring m c n.val) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt m c t.val := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (h : t.val % 11 ≠ 0) (d) : (dats m 0 c).before 5 t d = outsAt m c (t.val - 1) := by
  have hf : (cfg0.win 5).flush ⟨t.val - 1, Nat.lt_of_le_of_lt (Nat.sub_le _ _) t.isLt⟩ = false :=
    Bool.eq_false_iff.mpr fun e => by have := (flush0_5 _).mp e; dsimp only at this; omega
  rw [(dats m 0 c).before_out_kept 5 rfl t (by omega) hf live5 (fun _ _ => rfl) d, after0_5]

/-! ## The body at each point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

theorem bodyA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0 Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5]
  rw [Phi_eq, Phi_eq, show t.castSucc.val = t.val from rfl, show t.succ.val = t.val + 1 from rfl, xnPart_first m c (by omega), xnPart_rest m c (n := t.val + 1) (by omega), ring_free m c (by unfold flies; omega), ring_free m c (n := t.val + 1) (by unfold flies; omega), outsAt_A m c t (by omega)]
  rw [show (t.val + 1) / 11 = 0 by omega, show t.val / 11 = 0 by omega, xnAt_eq m c 0 t]
  iintro ⟨⟨Hg, Hx, Hq, Ht, Hh⟩, ⟨%W, -, HW⟩, ⟨%d0, H0⟩, ⟨%d1, H1⟩, ⟨%d2, H2⟩, ⟨%d3, H3⟩, ⟨%d4, H4⟩, ⟨%d5, H5⟩⟩
  iapply (runA c (grid0.coords t) ((c1 t).2 (by omega)) ((c2 t).2 (by omega)) (fun e => absurd ((c3 t).1 e) (by omega)) (fun e => absurd ((c4 t).1 e) (by omega)) (fun e => absurd ((c5 t).1 e) (by omega)) (V m c main_arg0) W _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [Hx]; · iexact Hx
  isplitl [Hq]; · iexact Hq
  isplitl [Ht]; · iexact Ht
  isplitl [Hh]; · iexact Hh
  isplitl [HW]; · iexact HW
  iintro ⟨H0, H1, H2, H3, H4, H5, Hx, Hq, Ht, Hh, ⟨%W', HW'⟩⟩
  isplitl [Hg Hx Hq Ht Hh]
  · isplitl [Hg]; · iexact Hg
    isplitl [Hx]; · iexact Hx
    isplitl [Hq]; · iexact Hq
    isplitl [Ht]; · iexact Ht
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem bodyB (c : Dev nD) (t : Fin cfg0.N) (h : t.val % 11 = 0) (h0 : t.val ≠ 0) :
    bodyPre m c t ⊢ wp frame (wpE (defs₀ (F := F)) Variants.none c none) Set.univ (bodyAt0 t) (fun _ => bodyPost m c t) := by
  have hN : t.val < 176 := lt_of_lt_of_eq t.isLt N_0
  unfold bodyPre bodyPost bodyAt0 Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5]
  rw [Phi_eq, Phi_eq, show t.castSucc.val = t.val from rfl, show t.succ.val = t.val + 1 from rfl, xnPart_first m c (by omega), xnPart_rest m c (n := t.val + 1) (by omega), ring_flies m c (n := t.val) (by unfold flies; omega), ring_free m c (n := t.val + 1) (by unfold flies; omega), outsAt_A m c t (by omega)]
  rw [show (t.val + 1) / 11 = t.val / 11 by omega, show (t.val + 9) / 11 = t.val / 11 by omega, xnAt_eq m c _ t]
  iintro ⟨⟨Hg, Hx, Hf⟩, ⟨%W, -, HW⟩, ⟨%d0, H0⟩, ⟨%d1, H1⟩, ⟨%d2, H2⟩, ⟨%d3, H3⟩, ⟨%d4, H4⟩, ⟨%d5, H5⟩⟩
  iapply (runB c (grid0.coords t) (fun e => absurd ((c1 t).1 e) (by omega)) ((c2 t).2 (by omega)) (fun e => absurd ((c3 t).1 e) (by omega)) (fun e => absurd ((c4 t).1 e) (by omega)) (fun e => absurd ((c5 t).1 e) (by omega)) (V m c main_arg0) W (off (t.val / 11)) (off_inb _) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [Hx]; · iexact Hx
  isplitl [Hf]; · iexact Hf
  isplitl [HW]; · iexact HW
  iintro ⟨H0, H1, H2, H3, H4, H5, Hx, Hq, Ht, Hh, ⟨%W', HW'⟩⟩
  isplitl [Hg Hx Hq Ht Hh]
  · isplitl [Hg]; · iexact Hg
    isplitl [Hx]; · iexact Hx
    isplitl [Hq]; · iexact Hq
    isplitl [Ht]; · iexact Ht
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem bodyC (c : Dev nD) (t : Fin cfg0.N) (h : t.val % 11 = 1) (h0 : t.val / 11 < 15) :
    bodyPre m c t ⊢ wp frame (wpE (defs₀ (F := F)) Variants.none c none) Set.univ (bodyAt0 t) (fun _ => bodyPost m c t) := by
  have hN : t.val < 176 := lt_of_lt_of_eq t.isLt N_0
  unfold bodyPre bodyPost bodyAt0 Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5]
  rw [Phi_eq, Phi_eq, show t.castSucc.val = t.val from rfl, show t.succ.val = t.val + 1 from rfl, xnPart_rest m c (n := t.val) (by omega), xnPart_rest m c (n := t.val + 1) (by omega), ring_free m c (n := t.val) (by unfold flies; omega), ring_flies m c (n := t.val + 1) (by unfold flies; omega), outsAt_B m c t (by omega) (by omega)]
  simp only [before0_5 m c t (by omega)]
  rw [show (t.val + 1) / 11 = t.val / 11 by omega, flying_ex m c (off_next t (by omega) (by omega)) _ (Gen.k0_off2_inb _ ((c3 t).2 (by omega)))]
  iintro ⟨⟨Hg, Hx, Hq, Ht, Hh⟩, ⟨%W, -, HW⟩, ⟨%d0, H0⟩, ⟨%d1, H1⟩, ⟨%d2, H2⟩, ⟨%d3, H3⟩, ⟨%d4, H4⟩, ⟨%d5, H5⟩⟩
  iapply (runC c (grid0.coords t) (fun e => absurd ((c1 t).1 e) (by omega)) (fun e => absurd ((c2 t).1 e) (by omega)) ((c3 t).2 (by omega)) ((c4 t).2 (by omega)) (fun e => absurd ((c5 t).1 e) (by omega)) (V m c main_arg0) (outsAt m c (t.val - 1)) (xnAt m c (t.val / 11)) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [Hx]; · iexact Hx
  isplitl [Hq]; · iexact Hq
  isplitl [Ht]; · iexact Ht
  isplitl [Hh]; · iexact Hh
  iintro ⟨H0, H1, H2, H3, H4, H5, Hx, Hr⟩
  isplitl [Hg Hx Hr]
  · isplitl [Hg]; · iexact Hg
    isplitl [Hx]; · iexact Hx
    iexact Hr
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem bodyD (c : Dev nD) (t : Fin cfg0.N) (h : 1 ≤ t.val % 11) (h9 : t.val % 11 ≤ 9) (h0 : ¬ (t.val % 11 = 1 ∧ t.val / 11 < 15)) :
    bodyPre m c t ⊢ wp frame (wpE (defs₀ (F := F)) Variants.none c none) Set.univ (bodyAt0 t) (fun _ => bodyPost m c t) := by
  have hN : t.val < 176 := lt_of_lt_of_eq t.isLt N_0
  unfold bodyPre bodyPost bodyAt0 Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5]
  rw [Phi_eq, Phi_eq, show t.castSucc.val = t.val from rfl, show t.succ.val = t.val + 1 from rfl, xnPart_rest m c (n := t.val) (by omega), xnPart_rest m c (n := t.val + 1) (by omega), ring_succ m c (n := t.val) (by omega) (by omega) (by omega), outsAt_B m c t (by omega) (by omega)]
  simp only [before0_5 m c t (by omega)]
  rw [show (t.val + 1) / 11 = t.val / 11 by omega]
  iintro ⟨⟨Hg, Hx, Hr⟩, ⟨%W, -, HW⟩, ⟨%d0, H0⟩, ⟨%d1, H1⟩, ⟨%d2, H2⟩, ⟨%d3, H3⟩, ⟨%d4, H4⟩, ⟨%d5, H5⟩⟩
  iapply (runD c (grid0.coords t) (fun e => absurd ((c1 t).1 e) (by omega)) (fun e => absurd ((c2 t).1 e) (by omega)) (fun e => absurd ((c3 t).1 e) (by omega)) ((c4 t).2 (by omega)) (fun e => absurd ((c5 t).1 e) (by omega)) (outsAt m c (t.val - 1)) (xnAt m c (t.val / 11)) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [Hx]; · iexact Hx
  iintro ⟨H0, H1, H2, H3, H4, H5, Hx⟩
  isplitl [Hg Hx Hr]
  · isplitl [Hg]; · iexact Hg
    isplitl [Hx]; · iexact Hx
    iexact Hr
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem bodyE (c : Dev nD) (t : Fin cfg0.N) (h : t.val % 11 = 10) :
    bodyPre m c t ⊢ wp frame (wpE (defs₀ (F := F)) Variants.none c none) Set.univ (bodyAt0 t) (fun _ => bodyPost m c t) := by
  have hN : t.val < 176 := lt_of_lt_of_eq t.isLt N_0
  unfold bodyPre bodyPost bodyAt0 Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5]
  rw [Phi_eq, Phi_eq, show t.castSucc.val = t.val from rfl, show t.succ.val = t.val + 1 from rfl, xnPart_rest m c (n := t.val) (by omega), xnPart_first m c (n := t.val + 1) (by omega), ring_succ m c (n := t.val) (by omega) (by omega) (by omega), outsAt_C m c t (by omega)]
  simp only [before0_5 m c t (by omega)]
  iintro ⟨⟨Hg, Hx, Hr⟩, ⟨%W, -, HW⟩, ⟨%d0, H0⟩, ⟨%d1, H1⟩, ⟨%d2, H2⟩, ⟨%d3, H3⟩, ⟨%d4, H4⟩, ⟨%d5, H5⟩⟩
  iapply (runE c (grid0.coords t) (fun e => absurd ((c1 t).1 e) (by omega)) (fun e => absurd ((c2 t).1 e) (by omega)) (fun e => absurd ((c3 t).1 e) (by omega)) (fun e => absurd ((c4 t).1 e) (by omega)) ((c5 t).2 (by omega)) (outsAt m c (t.val - 1)) (xnAt m c (t.val / 11)) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [Hx]; · iexact Hx
  iintro ⟨H0, H1, H2, H3, H4, H5, Hx⟩
  isplitl [Hg Hx Hr]
  · isplitl [Hg]; · iexact Hg
    isplitl [Hx]; · iexists _; iexact Hx
    iexact Hr
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact bodyA m c t h0
  by_cases h1 : t.val % 11 = 0
  · exact bodyB m c t h1 h0
  by_cases h2 : t.val % 11 = 10
  · exact bodyE m c t h2
  by_cases h3 : t.val % 11 = 1 ∧ t.val / 11 < 15
  · exact bodyC m c t h3.1 h3.2
  exact bodyD m c t (by omega) (by omega) h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by unfold bodyPost; rw [live5]

/-! ## The run and the frame -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem PhiD_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch2), ((c : Thread nD τ).loc cc0_scratch2) ↦{fullShare} f))
          ∗ (∃ r, prngReg c r) ∗ semVal ((c : Thread nD τ), SemLoc.dma 10) 0
          ∗ (((c : Thread nD τ).loc main_arg0) ↦{fullShare} V m c main_arg0)) := by
  rw [Pipeline.ΦD_eq, scopedRest0_eq, ownSems00_eq, hbmPts0_eq]

theorem Phi_free (c : Dev nD) (n : Fin (cfg0.N + 1)) (h : n.val % 11 = 0) (h' : ¬ flies n.val) :
    (dats m 0 c).Φ n = iprop((∃ r, prngReg c r) ∗ (∃ f : Buf (Elt F) ((c : Thread nD τ).loc cc0_scratch2), ((c : Thread nD τ).loc cc0_scratch2) ↦{fullShare} f)
      ∗ semVal ((c : Thread nD τ), SemLoc.dma 10) 0 ∗ (∃ f : Buf (Elt F) ((c : Thread nD τ).loc cc0_scratch0), ((c : Thread nD τ).loc cc0_scratch0) ↦{fullShare} f)
      ∗ (((c : Thread nD τ).loc main_arg0) ↦{fullShare} V m c main_arg0)) := by
  rw [Phi_eq, xnPart_first m c h, ring_free m c h']
  simp only [xnM, hbM, tbM, tbPt, hbPt, owns_whole, Memref.view_whole, View.set_whole]
  rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by
      rw [PhiD_eq, Phi_free m c _ (by decide) (by decide)]
      iintro ⟨⟨Ht, Hx⟩, Hg, Hq, Hh⟩
      isplitl [Hg]; · iexact Hg
      isplitl [Hx]; · iexact Hx
      isplitl [Hq]; · iexact Hq
      isplitl [Ht]; · iexact Ht
      iexact Hh)
    (hout := fun c => by
      rw [PhiD_eq, Phi_free m c _ (by decide) (by decide)]
      iintro ⟨Hg, Hx, Hq, Ht, Hh⟩
      isplitl [Ht Hx]
      · isplitl [Ht]; · iexact Ht
        iexact Hx
      isplitl [Hg]; · iexact Hg
      isplitl [Hq]; · iexact Hq
      iexact Hh)

/-- The whole run: the result array, the arguments as they were, and every counter at zero. -/
theorem run_result : θ_run defs (onTc (τ := τ) (main (F := F))) ⟨m, fun _ => 0, ρ⟩ (fun r => (∀ c : Dev nD,
      r.2.mem ((c.tc : Thread nD τ).loc main_v7) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 5, ((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_result m ρ)

end Cert.FfnIdeal.Hand
end
-- ==== Proof.Swiglu.lean ====
/- The arithmetic of one feed-forward block over the extended reals, free of either program: the normalization of a row,
   the gated hidden value in the kernel's spelling and in the reference's, and the hidden dimension taken in blocks. -/
module

public import proofs.«01_k».proof.Proof.Consts
public import Idealize.ShloMosaic.Lib.Pipeline.ValueKit

@[expose] public section

set_option maxRecDepth 16384

noncomputable section

namespace Cert.Swiglu

open Idealize.ShloMosaic

/-- Entry `x` of the row `v`, divided by the row's root mean square and scaled by `g`. -/
def norm (v : Fin 2048 → EReal) (x g : EReal) : EReal :=
  x * Ideal.rsqrt (Ideal.div (∑ k, v k * v k) (Ideal.ofBits FTy.f32 0x45000000#32) + Ideal.ofBits FTy.f32 0x358637BD#32) * g

/-- The kernel's gated value: the half multiplied into the gate first. -/
def gated (a b : EReal) : EReal := (Ideal.ofBits FTy.f32 0x3F000000#32 * a) * Ideal.div 1 (1 + Ideal.exp (0 - a)) * b

/-- The reference's gated value. -/
def silu (a b : EReal) : EReal := a * Ideal.div 1 (1 + Ideal.exp (-a)) * b

theorem gated_eq (a b : EReal) : gated a b = Ideal.ofBits FTy.f32 0x3F000000#32 * silu a b := by
  unfold gated silu; rw [zero_sub, mul_assoc, mul_assoc, mul_assoc]

/-- The constant half goes in and out of any finite sum: it is finite and not negative. -/
theorem half_mul_sum {n : ℕ} (f : Fin n → EReal) :
    Ideal.ofBits FTy.f32 0x3F000000#32 * ∑ l, f l = ∑ l, Ideal.ofBits FTy.f32 0x3F000000#32 * f l := by
  rw [Cert.Scalars.half]
  induction n with
  | zero => simp
  | succ n ih =>
    rw [Fin.sum_univ_castSucc, Fin.sum_univ_castSucc,
      EReal.left_distrib_of_nonneg_of_ne_top (by exact_mod_cast (by norm_num : (0 : ℝ) ≤ 1 / 2)) (EReal.coe_ne_top _), ih]

/-- Lane `l` of hidden block `s`. -/
def lane (s : ℕ) (l : Fin 512) : Fin 5632 := ⟨(512 * s + l.val) % 5632, Nat.mod_lt _ (by omega)⟩

/-- What hidden block `s` adds to one entry of the row: `xn` the normalized row, `wd` the down weights' column. -/
def term (xn : Fin 2048 → EReal) (wg wu : Fin 2048 → Fin 5632 → EReal) (wd : Fin 5632 → EReal) (s : ℕ) : EReal :=
  ∑ l : Fin 512, gated (∑ k, xn k * wg k (lane s l)) (∑ k, xn k * wu k (lane s l)) * wd (lane s l)

/-- One entry of the block's result before the last normalization. -/
def entry (x : EReal) (xn : Fin 2048 → EReal) (wg wu : Fin 2048 → Fin 5632 → EReal) (wd : Fin 5632 → EReal) : EReal :=
  x + Ideal.ofBits FTy.f32 0x3F000000#32 * ∑ l : Fin 5632, silu (∑ k, xn k * wg k l) (∑ k, xn k * wu k l) * wd l

/-- The eleven blocks together are the reference's one contraction. -/
theorem entry_eq (x : EReal) (xn : Fin 2048 → EReal) (wg wu : Fin 2048 → Fin 5632 → EReal) (wd : Fin 5632 → EReal) :
    x + ∑ s ∈ Finset.range 11, term xn wg wu wd s = entry x xn wg wu wd := by
  unfold entry
  rw [half_mul_sum, Finset.sum_range]
  congr 1
  refine Fin.sum_mul_add_congr fun s k hl => ?_
  have e : lane s.val k = ⟨s.val * 512 + k.val, hl⟩ := by
    apply Fin.ext; show (512 * s.val + k.val) % 5632 = s.val * 512 + k.val
    omega
  rw [gated_eq, mul_assoc, e]

/-- A sequence that starts a run at `x + t 0` and adds `t f` at each further point holds, after point `f`, `x` and the terms so far. -/
theorem run_sum (a : ℕ → EReal) (x : EReal) (t : ℕ → EReal) (n J : ℕ) (h0 : a n = x + t 0)
    (hs : ∀ f, f + 1 ≤ J → a (n + f + 1) = a (n + f) + t (f + 1)) :
    ∀ f, f ≤ J → a (n + f) = x + ∑ s ∈ Finset.range (f + 1), t s := by
  intro f
  induction f with
  | zero => intro _; simpa using h0
  | succ f ih =>
    intro hf
    rw [show n + (f + 1) = n + f + 1 by omega, hs f hf, ih (by omega), Finset.sum_range_succ _ (f + 1), add_assoc]

end Cert.Swiglu

end
-- ==== Proof.FfnRefValue.lean ====
/- The reference's feed-forward block read at an index: its normalizations and its two-layer product are the row
   arithmetic of `Cert.Swiglu`. -/
module

public import proofs.«01_k».proof.Proof.Gen.FfnRefIdeal.Run
public import proofs.«01_k».proof.Proof.Swiglu
public import Idealize.ShloMosaic.Lib.Pipeline.ValueKit
public import Idealize.ShloMosaic.Lib.Pointwise

@[expose] public section

set_option maxRecDepth 16384

noncomputable section

namespace Cert.FfnRefIdeal.Hand

open Cert.FfnRefIdeal Cert.FfnRefIdeal.Gen Idealize.ShloMosaic Idealize.ShloMosaic.TcCoe Idealize.SL.Sem
open Cert.Swiglu

/-- Every row normalized and scaled. -/
def NRM (X : FVec Ideal S16384x2048 .f32) (g : FVec Ideal S2048 .f32) : FVec Ideal S16384x2048 .f32 :=
  mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

/-- The gated hidden values from the two products. -/
def GATE (A B : FVec Ideal S16384x5632 .f32) : FVec Ideal S16384x5632 .f32 :=
  mulf (mulf A (Host.divf (broadcastInDim S16384x5632 ![] bcast_S_S16384x5632 (constant S_ .f32 0x3F800000#32)) (addf (broadcastInDim S16384x5632 ![] bcast_S_S16384x5632 (constant S_ .f32 0x3F800000#32)) (Host.exp (Host.negf A))))) B

/-- A product into the hidden dimension. -/
def UP (Xn : FVec Ideal S16384x2048 .f32) (W : FVec Ideal S1x2048x5632 .f32) : FVec Ideal S16384x5632 .f32 :=
  Host.dotGeneral dot_S16384x2048_S2048x5632_S16384x5632_1_0_0_1_n_n none Xn (shapeCast S2048x5632 W shapeCasts_S1x2048x5632_S2048x5632)

/-- The residual plus half the product back down. -/
def DOWN (X : FVec Ideal S16384x2048 .f32) (H : FVec Ideal S16384x5632 .f32) (W : FVec Ideal S1x5632x2048 .f32) : FVec Ideal S16384x2048 .f32 :=
  addf X (mulf (broadcastInDim S16384x2048 ![] bcast_S_S16384x2048 (constant S_ .f32 0x3F000000#32)) (Host.dotGeneral dot_S16384x5632_S5632x2048_S16384x2048_1_0_0_1_n_n none H (shapeCast S5632x2048 W shapeCasts_S1x5632x2048_S5632x2048)))

/-- The block without its last normalization. -/
def BLK (X : FVec Ideal S16384x2048 .f32) (g : FVec Ideal S1x2048 .f32) (Wg Wu : FVec Ideal S1x2048x5632 .f32) (Wd : FVec Ideal S1x5632x2048 .f32) :
    FVec Ideal S16384x2048 .f32 :=
  DOWN X (GATE (UP (NRM X (shapeCast S2048 g shapeCasts_S1x2048_S2048)) Wg) (UP (NRM X (shapeCast S2048 g shapeCasts_S1x2048_S2048)) Wu)) Wd

theorem NRM_at (X : FVec Ideal S16384x2048 .f32) (g : FVec Ideal S2048 .f32) (r : Fin 16384) (k : Fin 2048) :
    NRM X g (ix2 r k) = norm (fun k => X (ix2 r k)) (X (ix2 r k)) (g (ix1 k)) := by
  pointwise [NRM]; rfl

theorem GATE_at (A B : FVec Ideal S16384x5632 .f32) (i : S16384x5632.Idx) : GATE A B i = silu (A i) (B i) := by
  pointwise [GATE]; rfl

theorem UP_at (Xn : FVec Ideal S16384x2048 .f32) (W : FVec Ideal S1x2048x5632 .f32) (r : Fin 16384) (l : Fin 5632) :
    UP Xn W (ix2 r l) = ∑ k, Xn (ix2 r k) * W (ix3 0 k l) := by
  pointwise [UP]

theorem DOWN_at (X : FVec Ideal S16384x2048 .f32) (H : FVec Ideal S16384x5632 .f32) (W : FVec Ideal S1x5632x2048 .f32) (r : Fin 16384) (k : Fin 2048) :
    DOWN X H W (ix2 r k) = X (ix2 r k) + Ideal.ofBits FTy.f32 0x3F000000#32 * ∑ l, H (ix2 r l) * W (ix3 0 l k) := by
  pointwise [DOWN]

theorem BLK_at (X : FVec Ideal S16384x2048 .f32) (g : FVec Ideal S1x2048 .f32) (Wg Wu : FVec Ideal S1x2048x5632 .f32) (Wd : FVec Ideal S1x5632x2048 .f32)
    (r : Fin 16384) (k : Fin 2048) :
    BLK X g Wg Wu Wd (ix2 r k) = entry (X (ix2 r k)) (fun k => norm (fun k => X (ix2 r k)) (X (ix2 r k)) (g (ix2 0 k)))
      (fun k l => Wg (ix3 0 k l)) (fun k l => Wu (ix3 0 k l)) (fun l => Wd (ix3 0 l k)) := by
  unfold BLK
  have hg : ∀ k : Fin 2048, shapeCast S2048 g shapeCasts_S1x2048_S2048 (ix1 k) = g (ix2 0 k) := fun k => by pointwise []
  simp only [DOWN_at, GATE_at, UP_at, NRM_at, hg]
  rfl

theorem result_eq (m : (ℓ : Loc nD τ sig) → Buf (Elt Ideal) ℓ) (c : Dev nD) :
    Value.res_main_v37 m c = NRM (BLK (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5)) := by
  unfold Value.res_main_v37 BLK NRM DOWN GATE UP; rfl

end Cert.FfnRefIdeal.Hand

end
-- ==== Proof.FfnValue.lean ====
/- What the feed-forward kernel computes over the extended reals: the block after hidden chunk `f` holds the tile plus the
   first `f + 1` chunks of the gated product, and the last chunk's store is the reference's normalized result. -/
module

public import proofs.«01_k».proof.Proof.FfnFrame
public import proofs.«01_k».proof.Proof.FfnRefValue
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.Swiglu

/-! ## The payloads at an index -/

theorem pay4_at (x : Vec Ideal S1024x2048 .f32) (g : Vec Ideal S1x2048 .f32) (r : Fin 1024) (k : Fin 2048) :
    k0_pay4 x g (ix2 r k) = norm (fun k => x (ix2 r k)) (x (ix2 r k)) (g (ix2 0 k)) := by
  pointwise [k0_pay4]; rfl

theorem pay5_at (x : Vec Ideal S1024x2048 .f32) (g : Vec Ideal S1x2048 .f32) (r : Fin 1024) (k : Fin 2048) :
    k0_pay5 x g (ix2 r k) = norm (fun k => x (ix2 r k)) (x (ix2 r k)) (g (ix2 0 k)) := by
  rw [← pay4_at]; unfold k0_pay5; generalize k0_pay4 x g = y; pointwise []

theorem pay6_at (x : Vec Ideal S1024x2048 .f32) (g : Vec Ideal S1x2048 .f32) (wg wu : Vec Ideal S2048x512 .bf16) (r : Fin 1024) (l : Fin 512) :
    k0_pay6 x g wg wu (ix2 r l)
      = gated (∑ k, norm (fun k => x (ix2 r k)) (x (ix2 r k)) (g (ix2 0 k)) * wg (ix2 k l))
          (∑ k, norm (fun k => x (ix2 r k)) (x (ix2 r k)) (g (ix2 0 k)) * wu (ix2 k l)) := by
  simp only [← pay4_at]
  unfold k0_pay6; generalize k0_pay4 x g = y
  pointwise []; rfl

theorem pay1_at (v : Vec Ideal S1024x512 .f32) (acc : Vec Ideal S1024x2048 .f32) (wd : Vec Ideal S512x2048 .bf16) (r : Fin 1024) (k : Fin 2048) :
    k0_pay1 v acc wd (ix2 r k) = acc (ix2 r k) + ∑ l, v (ix2 r l) * wd (ix2 l k) := by
  pointwise [k0_pay1]

theorem pay2_at (xn : Vec Ideal S1024x2048 .bf16) (wg wu : Vec Ideal S2048x512 .bf16) (acc : Vec Ideal S1024x2048 .f32) (wd : Vec Ideal S512x2048 .bf16)
    (r : Fin 1024) (k : Fin 2048) :
    k0_pay2 xn wg wu acc wd (ix2 r k)
      = acc (ix2 r k) + ∑ l, gated (∑ k, xn (ix2 r k) * wg (ix2 k l)) (∑ k, xn (ix2 r k) * wu (ix2 k l)) * wd (ix2 l k) := by
  pointwise [k0_pay2]; rfl

/-- The rows of a block divided by their root mean squares, in the kernel's operations. -/
def core (v : FVec Ideal S1024x2048 .f32) : FVec Ideal S1024x2048 .f32 :=
  mulf v (broadcastTo S1024x2048 (rsqrt (addf (divf (shapeCast S1024x1 (multiReduction .add [1] S1024 (mulf v v) 0x00000000#32 reduces_S1024x2048_S1024 (.inl rfl) rfl)
      shapeCasts_S1024_S1024x1) (broadcast S1024x1 (Scalar.ofBits .f32 0x45000000#32))) (broadcast S1024x1 (Scalar.ofBits .f32 0x358637BD#32)))) broadcasts_S1024x1_S1024x2048)

theorem pay7_eq (xn : Vec Ideal S1024x2048 .bf16) (wg wu : Vec Ideal S2048x512 .bf16) (acc : Vec Ideal S1024x2048 .f32) (wd : Vec Ideal S512x2048 .bf16) :
    k0_pay7 xn wg wu acc wd = core (k0_pay2 xn wg wu acc wd) := rfl

theorem post_at (v : FVec Ideal S1024x2048 .f32) (g : Vec Ideal S1x2048 .f32) (r : Fin 1024) (k : Fin 2048) :
    k0_pay3 (core v) (k0_pay8 g) (ix2 r k) = norm (fun k => v (ix2 r k)) (v (ix2 r k)) (g (ix2 0 k)) := by
  pointwise [k0_pay3, k0_pay8, core]; rfl

/-! ## The blocks at an index -/

variable (m : (ℓ : Loc nD τ sig) → Buf (Elt Ideal) ℓ)

theorem idx : ∀ t : Fin cfg0.N, win0_0.index t = ![0, 0] ∧ win0_1.index t = ![0, t.val % 11] ∧ win0_2.index t = ![0, t.val % 11]
    ∧ win0_3.index t = ![t.val % 11, 0] ∧ win0_4.index t = ![0, 0] ∧ win0_5.index t = ![t.val / 11, 0] :=
  (by decide +kernel : ∀ t : Fin grid0.N, _)

theorem gpre_at (c : Dev nD) (t : Fin cfg0.N) (k : Fin 2048) : iblk m c 0 t (ix2 0 k) = m ((c : Thread nD τ).loc main_arg1) (ix2 0 k) := by
  blk_point [iblk, V, idx t]
theorem gpost_at (c : Dev nD) (t : Fin cfg0.N) (k : Fin 2048) : iblk m c 4 t (ix2 0 k) = m ((c : Thread nD τ).loc main_arg5) (ix1 k) := by
  blk_point [iblk, V, idx t]
theorem wg_at (c : Dev nD) (t : Fin cfg0.N) (k : Fin 2048) (l : Fin 512) :
    iblk m c 1 t (ix2 k l) = m ((c : Thread nD τ).loc main_arg2) (ix3 0 k (lane (t.val % 11) l)) := by
  blk_point [iblk, V, idx t, lane]
theorem wu_at (c : Dev nD) (t : Fin cfg0.N) (k : Fin 2048) (l : Fin 512) :
    iblk m c 2 t (ix2 k l) = m ((c : Thread nD τ).loc main_arg3) (ix3 0 k (lane (t.val % 11) l)) := by
  blk_point [iblk, V, idx t, lane]
theorem wd_at (c : Dev nD) (t : Fin cfg0.N) (k : Fin 2048) (l : Fin 512) :
    iblk m c 3 t (ix2 l k) = m ((c : Thread nD τ).loc main_arg4) (ix3 0 (lane (t.val % 11) l) k) := by
  blk_point [iblk, V, idx t, lane]

/-- Row `r` of row tile `b` in the whole array. -/
def row (b : ℕ) (r : Fin 1024) : Fin 16384 := ⟨1024 * (b % 16) + r.val, by have := Nat.mod_lt b (show 0 < 16 by omega); omega⟩

theorem tile_at (c : Dev nD) (b : ℕ) (r : Fin 1024) (k : Fin 2048) :
    tileAt m c b (ix2 r k) = m ((c : Thread nD τ).loc main_arg0) (ix2 (row b r) k) := by
  unfold tileAt
  rw [V_main_arg0]
  refine congrArg (m ((c : Thread nD τ).loc main_arg0)) ?_
  funext d
  match d with
  | 0 => apply Fin.ext; show 1024 * (b % 16) + _ = _; simp [row]
  | 1 => apply Fin.ext; show 0 + _ = _; simp

/-! ## The chunks of one tile -/

/-- Row `r` of tile `b` normalized: the row the hidden layer reads. -/
def xrow (c : Dev nD) (b : ℕ) (r : Fin 1024) (k : Fin 2048) : EReal :=
  norm (fun k => m ((c : Thread nD τ).loc main_arg0) (ix2 (row b r) k)) (m ((c : Thread nD τ).loc main_arg0) (ix2 (row b r) k))
    (m ((c : Thread nD τ).loc main_arg1) (ix2 0 k))

/-- Entry `k` of row `r` of tile `b`. -/
def xent (c : Dev nD) (b : ℕ) (r : Fin 1024) (k : Fin 2048) : EReal := m ((c : Thread nD τ).loc main_arg0) (ix2 (row b r) k)

/-- What chunk `s` adds at row `r`, column `k` of tile `b`. -/
def part (c : Dev nD) (b : ℕ) (r : Fin 1024) (k : Fin 2048) (s : ℕ) : EReal :=
  term (xrow m c b r) (fun k l => m ((c : Thread nD τ).loc main_arg2) (ix3 0 k l)) (fun k l => m ((c : Thread nD τ).loc main_arg3) (ix3 0 k l))
    (fun l => m ((c : Thread nD τ).loc main_arg4) (ix3 0 l k)) s

theorem first_at (c : Dev nD) (t : Fin cfg0.N) (r : Fin 1024) (k : Fin 2048) :
    k0_pay1 (k0_pay6 (tileAt m c (t.val / 11)) (iblk m c 0 t) (iblk m c 1 t) (iblk m c 2 t)) (tileAt m c (t.val / 11)) (iblk m c 3 t) (ix2 r k)
      = xent m c (t.val / 11) r k + part m c (t.val / 11) r k (t.val % 11) := by
  rw [pay1_at]
  simp only [pay6_at, tile_at, gpre_at, wg_at, wu_at, wd_at]
  rfl

theorem xnAt_at (c : Dev nD) (b : ℕ) (r : Fin 1024) (k : Fin 2048) : xnAt m c b (ix2 r k) = xrow m c b r k := by
  rw [xnAt, pay5_at]
  simp only [tile_at, gpre_at]
  rfl

theorem next_at (c : Dev nD) (t : Fin cfg0.N) (acc : Vec Ideal S1024x2048 .f32) (r : Fin 1024) (k : Fin 2048) :
    k0_pay2 (xnAt m c (t.val / 11)) (iblk m c 1 t) (iblk m c 2 t) acc (iblk m c 3 t) (ix2 r k)
      = acc (ix2 r k) + part m c (t.val / 11) r k (t.val % 11) := by
  rw [pay2_at]
  simp only [xnAt_at, wg_at, wu_at, wd_at]
  rfl

theorem N_eq : cfg0.N = 176 := by decide +kernel

/-- The block after chunk `f` of tile `b`, the last chunk left out. -/
theorem acc_at (c : Dev nD) (b : ℕ) (hb : b < 16) (r : Fin 1024) (k : Fin 2048) (f : ℕ) (hf : f ≤ 9) :
    outsAt m c (11 * b + f) (ix2 r k)
      = xent m c b r k + ∑ s ∈ Finset.range (f + 1), part m c b r k s := by
  have hN := N_eq
  refine run_sum (fun n => outsAt m c n (ix2 r k)) _ (part m c b r k) (11 * b) 9 ?_ ?_ f hf
  · have h := first_at m c ⟨11 * b, by omega⟩ r k
    rw [← outsAt_A m c ⟨11 * b, by omega⟩ (by dsimp only; omega)] at h
    have e1 : 11 * b / 11 = b := by omega
    have e2 : 11 * b % 11 = 0 := by omega
    dsimp only at h ⊢
    rw [h, e1, e2]
  · intro f hf
    have h := next_at m c ⟨11 * b + f + 1, by omega⟩ (outsAt m c (11 * b + f + 1 - 1)) r k
    have h2 := outsAt_B m c ⟨11 * b + f + 1, by omega⟩ (by dsimp only; omega) (by dsimp only; omega)
    have e1 : (11 * b + f + 1) / 11 = b := by omega
    have e2 : (11 * b + f + 1) % 11 = f + 1 := by omega
    dsimp only at h h2 ⊢
    rw [h2, h, e1, e2, Nat.add_sub_cancel]

/-- The whole sum of tile `b` after its last chunk. -/
theorem full_at (c : Dev nD) (t : Fin cfg0.N) (ht : t.val % 11 = 10) (r : Fin 1024) (k : Fin 2048) :
    k0_pay2 (xnAt m c (t.val / 11)) (iblk m c 1 t) (iblk m c 2 t) (outsAt m c (t.val - 1)) (iblk m c 3 t) (ix2 r k)
      = Cert.FfnRefIdeal.Hand.BLK (m ((c : Thread nD τ).loc main_arg0)) (m ((c : Thread nD τ).loc main_arg1)) (m ((c : Thread nD τ).loc main_arg2))
          (m ((c : Thread nD τ).loc main_arg3)) (m ((c : Thread nD τ).loc main_arg4)) (ix2 (row (t.val / 11) r) k) := by
  have hN := N_eq
  have hlt := t.isLt
  rw [Cert.FfnRefIdeal.Hand.BLK_at, ← entry_eq, next_at, ht, show t.val - 1 = 11 * (t.val / 11) + 9 by omega,
    acc_at m c (t.val / 11) (by omega) r k 9 le_rfl, add_assoc, ← Finset.sum_range_succ]
  rfl

/-- The reference's result of the kernel's arguments. -/
def REF (c : Dev nD) : FVec Ideal Cert.FfnRefIdeal.S16384x2048 .f32 :=
  Cert.FfnRefIdeal.Hand.NRM (Cert.FfnRefIdeal.Hand.BLK (m ((c : Thread nD τ).loc main_arg0)) (m ((c : Thread nD τ).loc main_arg1)) (m ((c : Thread nD τ).loc main_arg2))
    (m ((c : Thread nD τ).loc main_arg3)) (m ((c : Thread nD τ).loc main_arg4))) (m ((c : Thread nD τ).loc main_arg5))

theorem point (c : Dev nD) (t : Fin cfg0.N) (ht : t.val % 11 = 10) (r : Fin 1024) (k : Fin 2048) :
    outsAt m c t.val (ix2 r k) = REF m c (ix2 (row (t.val / 11) r) k) := by
  rw [outsAt_C m c t ht, pay7_eq, post_at, REF, Cert.FfnRefIdeal.Hand.NRM_at]
  simp only [full_at m c t ht, gpost_at]

theorem emb5 (t : Fin cfg0.N) (y : S1024x2048.Idx) : ((cfg0.win 5).blk t).view.emb y = ix2 (row (t.val / 11) (y 0)) (y 1) := by
  have hN := N_eq
  have hlt := t.isLt
  have hm : t.val / 11 % 16 = t.val / 11 := by omega
  blk_ext [idx t, row, hm]

theorem point_blk (c : Dev nD) (t : Fin cfg0.N) (ht : t.val % 11 = 10) (y : S1024x2048.Idx) :
    outsAt m c t.val y = REF m c (((cfg0.win 5).blk t).view.emb y) := by
  have e : y = ix2 (y 0) (y 1) := by funext d; match d with | 0 => rfl | 1 => rfl
  have h := point m c t ht (y 0) (y 1)
  exact (congrArg (outsAt m c t.val) e).trans (h.trans (congrArg (REF m c) (emb5 t y).symm))

/-- The whole result array after the run is the reference of the arguments. -/
theorem final (c : Dev nD) : (dats m 0 c).arrAt 5 (cfgs 0).N = REF m c := by
  refine (dats m 0 c).arrAt_eq_of_covers 5 _ (by decide +kernel) fun t hf y => ?_
  blk_simp; rw [after0_5]; exact point_blk m c t ((flush0_5 t).mp hf) y

end Cert.FfnIdeal.Hand

end
-- ==== Proof.FfnClaim.lean ====
/- The five claims about the last feed-forward block: both programs' and the reference's frames, the idealized text, and the value. -/
module

public import proofs.«01_k».proof.Defs
public import proofs.«01_k».proof.Proof.Gen.Ffn
public import proofs.«01_k».proof.Proof.FfnValue
public import Idealize.ShloMosaic.Lib.Claim

@[expose] public section

set_option maxRecDepth 16384

noncomputable section

namespace Cert.FfnClaim

open Idealize.ShloMosaic Idealize.ShloMosaic.TcCoe Idealize.SL.Sem

/-- The kernel and its idealized text are the same program: the two body tables agree at their one label. -/
theorem bodies_eq {F : FTy → Type} [FloatOps F] : Cert.Ffn.defs₀ (F := F) = Cert.FfnIdeal.defs₀ (F := F) :=
  congrArg Defs.onTc (funext fun p => funext fun x => match p, x with
    | 0, (_, _) => rfl
    | ⟨_ + 1, h⟩, _ => absurd h (Nat.not_lt.2 (Nat.le_add_left _ _)))

theorem defs_eq {F : FTy → Type} [FloatOps F] : Cert.Ffn.defs (F := F) = Cert.FfnIdeal.defs (F := F) :=
  congrArg (Pipeline.defs Cert.FfnIdeal.pcfgs) bodies_eq

/-- So the one run over the hardware's values is the kernel's. -/
theorem frame_kernel : Cert.quiescent_Ffn := fun m g _ => by
  rw [defs_eq]
  exact Cert.FfnIdeal.Hand.frame (F := Bits) m g

theorem frame_ideal : Cert.quiescent_FfnIdeal := fun m g _ => Cert.FfnIdeal.Hand.frame (F := Ideal) m g

/-- The reference is a line of host operations and declares no semaphore. -/
theorem frame_reference : Cert.quiescent_FfnRefIdeal := fun m g _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m g)

theorem preserves : Cert.preserves_Ffn_FfnIdeal := trivial

theorem algebraic : Cert.algebraic_FfnIdeal_FfnRefIdeal := by
  intro m g m' g' _ hargs
  refine ⟨fun c => Cert.FfnIdeal.Hand.REF m c,
    (θ_run Cert.FfnIdeal.defs _ _).mono (fun _ h c => ⟨(h.1 c).1.trans (Cert.FfnIdeal.Hand.final m c), (h.1 c).2⟩)
      (Cert.FfnIdeal.Hand.run_result (F := Ideal) m g),
    (θ_run Cert.FfnRefIdeal.defs _ _).mono (fun _ h c => ⟨(h c).1.trans ?_, (h c).2⟩) (Cert.FfnRefIdeal.Value.run (F := Ideal) m' g')⟩
  obtain ⟨e0, e1, e2, e3, e4, e5⟩ := hargs c
  rw [Cert.FfnRefIdeal.Hand.result_eq, e0, e1, e2, e3, e4, e5]
  rfl

end Cert.FfnClaim

end
-- ==== Proof.MidBody.lean ====
/- The first feed-forward kernel's body: the runs of one grid point, by what the point does — start the first row tile's
   transfer, wait for a tile and take its first chunk, start the next tile's transfer, add a chunk, add the last one. -/
module

public import proofs.«01_k».proof.Proof.Gen.MidIdeal.Frame
public import proofs.«01_k».proof.Proof.Gen.MidIdeal.Skeleton
public import proofs.«01_k».proof.Proof.Whole
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.MidIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MidIdeal.Gen Cert.Whole

variable {F : FTy → Type} [FloatOps F]

local notation "𝕄" => MT nD τ sig Unit (Elt F) ℕ (Pipeline.UD sig nD τ) ℕ

/-- The rows' array in HBM, the tile buffer, its semaphore. -/
abbrev hbM : Memref sig .tc .hbm S16384x2048 .f32 := Memref.whole main_arg0
abbrev tbM : Memref sig .tc .vmem S1024x2048 .f32 := Memref.whole cc0_scratch0
abbrev sm : DmaSem sig := 12

/-- The rows at offset `o`. -/
abbrev tileM (o : Fin 2 → ℕ) (h : ∀ a, o a + S1024x2048.size a ≤ S16384x2048.size a) : Memref sig .tc .hbm S1024x2048 .f32 :=
  hbM.slice (Rect.unit (s := S16384x2048) o S1024x2048.size h) (fun _ => rfl)

/-- The array's contents; the tile's buffer's. -/
abbrev HBuf (c : Dev nD) : Type := Buf (Elt F) (hbM.view.loc (c : Thread nD τ))
abbrev TBuf (c : Dev nD) : Type := Buf (Elt F) (tbM.view.loc (c : Thread nD τ))

abbrev tileOf (c : Dev nD) (X : HBuf (F := F) c) (o : Fin 2 → ℕ) (h : ∀ a, o a + S1024x2048.size a ≤ S16384x2048.size a) :
    Vec F S1024x2048 .f32 :=
  (tileM o h).view.read (Elt F) X

abbrev hbPt (c : Dev nD) (X : HBuf (F := F) c) : sProp 𝕄 := hbM.view.loc (c : Thread nD τ) ↦[hbM.view.set]{fullShare} X
abbrev tbPt (c : Dev nD) (f : TBuf (F := F) c) : sProp 𝕄 := tbM.view.loc (c : Thread nD τ) ↦[tbM.view.set]{fullShare} f

/-- The transfer of the rows at `o` into the tile buffer under way, with the rest of the array. -/
abbrev flying (c : Dev nD) (X : HBuf (F := F) c) (o : Fin 2 → ℕ) (h : ∀ a, o a + S1024x2048.size a ≤ S16384x2048.size a)
    (f : TBuf (F := F) c) : sProp 𝕄 :=
  iprop(Transfers.Flight (countersEmb (U := Pipeline.UD sig nD τ)) (c : Thread nD τ) (.dma sm) () (tbM.view.amount (SemLoc.dma (sig := sig) sm))
      iprop((tbM.view.loc (c : Thread nD τ) ↦[tbM.view.set]{fullShare} tbM.view.writes (Elt F) f [⟨Rect.whole _, ReadAs.same.apply (tileOf c X o h)⟩])
        ∗ ((tileM o h).view.loc (c : Thread nD τ) ↦[(tileM o h).view.set]{fullShare} X))
    ∗ (hbM.view.loc (c : Thread nD τ) ↦[hbM.view.set \ (tileM o h).view.set]{fullShare} X))

theorem hsub (o : Fin 2 → ℕ) (h : ∀ a, o a + S1024x2048.size a ≤ S16384x2048.size a) : (tileM o h).view.set ⊆ hbM.view.set :=
  View.set_slice_subset _ _

set_option maxHeartbeats 2000000 in
/-- The first point: start the first tile's transfer, wait for it, normalize it and take the first chunk. -/
theorem runA (c : Dev nD) (i : grid0.Coords) (h1 : (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (h2 : (k0_cond2 i = 1#1)) (h3 : ¬ (k0_cond3 i = 1#1)) (h4 : ¬ (k0_cond4 i = 1#1)) (h5 : ¬ (k0_cond5 i = 1#1)) (X : HBuf (F := F) c) (W : Waits sig Unit)
    (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1x2048 .f32) (x1 : Vec F S2048x512 .bf16) (x2 : Vec F S2048x512 .bf16) (x3 : Vec F S512x2048 .bf16) (x4 : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ semVal ((c : Thread nD τ), SemLoc.dma sm) 0 ∗ (∃ f, tbPt c f) ∗ hbPt c X ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay1 (k0_pay5 (tileOf c X ![0, 0] inb_S16384x2048_S1024x2048_0_0) x0 x1 x2) (tileOf c X ![0, 0] inb_S16384x2048_S1024x2048_0_0) x3) ∗ owns (c : Thread nD τ) arg9 fullShare (k0_pay4 (tileOf c X ![0, 0] inb_S16384x2048_S1024x2048_0_0) x0) ∗ semVal ((c : Thread nD τ), SemLoc.dma sm) 0 ∗ (∃ f, tbPt c f) ∗ hbPt c X ∗ (∃ W', owes (c : Thread nD τ) 0 W')) -∗ K ⟨⟩))
      ⊢ wp frame (wpE (defs₀ (F := F)) Variants.none c none) Set.univ (cc0_ffn_mid i hbM (Memref.isWhole_whole _) arg3 harg3 arg4 harg4 arg5 harg5 arg6 harg6 arg7 harg7 arg8 harg8 arg9 harg9 tbM (Memref.isWhole_whole _) cc0_scratch1) K := by
  simp only [cc0_ffn_mid_eq_skeleton]; unfold cc0_ffn_mid_skel
  simp only [dif_pos h1, dif_pos h2, dif_neg h3, dif_neg h4, dif_neg h5, k0_part1_eq_skeleton, k0_part1_skel]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%dx, %fx, -, Hx⟩, Hq, ⟨%ft, Ht⟩, Hh, HW, Hk⟩
  obtain rfl := harg3.eq_unread hf0; obtain rfl := harg4.eq_unread hf1; obtain rfl := harg5.eq_unread hf2; obtain rfl := harg6.eq_unread hf3; obtain rfl := harg7.eq_unread hf4
  sl_exec
  sl_step
  have hv : runA.sl.v24 c X = (tileOf c X ![0, 0] inb_S16384x2048_S1024x2048_0_0) := readCov_all (s := S1024x2048) tbM.view (tileOf c X ![0, 0] inb_S16384x2048_S1024x2048_0_0) zero2 inb_S1024x2048_S1024x2048_0_0
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H8]
  · iexists _; isplitr; swap; (· iexact H8); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4]; rw [hv]
  isplitl [Hx]
  · iexists _; isplitr; swap; (· iexact Hx); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4]; rw [hv]
  isplitl [Hq]; · iexact Hq
  isplitl [Ht]; · iexists _; iexact Ht
  isplitl [Hh]; · iexact Hh
  iexists _; iexact HW

set_option maxHeartbeats 2000000 in
/-- A later tile's first point: wait for the tile, normalize it and take the first chunk. -/
theorem runB (c : Dev nD) (i : grid0.Coords) (h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (h2 : (k0_cond2 i = 1#1)) (h3 : ¬ (k0_cond3 i = 1#1)) (h4 : ¬ (k0_cond4 i = 1#1)) (h5 : ¬ (k0_cond5 i = 1#1)) (X : HBuf (F := F) c) (W : Waits sig Unit) (o : Fin 2 → ℕ) (ho : ∀ a, o a + S1024x2048.size a ≤ S16384x2048.size a)
    (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1x2048 .f32) (x1 : Vec F S2048x512 .bf16) (x2 : Vec F S2048x512 .bf16) (x3 : Vec F S512x2048 .bf16) (x4 : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ f, flying c X o ho f) ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay1 (k0_pay5 (tileOf c X o ho) x0 x1 x2) (tileOf c X o ho) x3) ∗ owns (c : Thread nD τ) arg9 fullShare (k0_pay4 (tileOf c X o ho) x0) ∗ semVal ((c : Thread nD τ), SemLoc.dma sm) 0 ∗ (∃ f, tbPt c f) ∗ hbPt c X ∗ (∃ W', owes (c : Thread nD τ) 0 W')) -∗ K ⟨⟩))
      ⊢ wp frame (wpE (defs₀ (F := F)) Variants.none c none) Set.univ (cc0_ffn_mid i hbM (Memref.isWhole_whole _) arg3 harg3 arg4 harg4 arg5 harg5 arg6 harg6 arg7 harg7 arg8 harg8 arg9 harg9 tbM (Memref.isWhole_whole _) cc0_scratch1) K := by
  simp only [cc0_ffn_mid_eq_skeleton]; unfold cc0_ffn_mid_skel
  simp only [dif_neg h1, dif_pos h2, dif_neg h3, dif_neg h4, dif_neg h5, k0_part1_eq_skeleton, k0_part1_skel]
  unfold owns flying tileM
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%dx, %fx, -, Hx⟩, ⟨%ft, HF, Hh⟩, HW, Hk⟩
  obtain rfl := harg3.eq_unread hf0; obtain rfl := harg4.eq_unread hf1; obtain rfl := harg5.eq_unread hf2; obtain rfl := harg6.eq_unread hf3; obtain rfl := harg7.eq_unread hf4
  sl_exec
  sl_step
  have hv : runB.sl.v24 c X o ho = (tileOf c X o ho) := readCov_all (s := S1024x2048) tbM.view (tileOf c X o ho) zero2 inb_S1024x2048_S1024x2048_0_0
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H8]
  · iexists _; isplitr; swap; (· iexact H8); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4]; rw [hv]
  isplitl [Hx]
  · iexists _; isplitr; swap; (· iexact Hx); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4]; rw [hv]
  isplitl [HF]; · iexact HF
  isplitl [HF_dst]; · iexists _; iexact HF_dst
  isplitl [Hh]; · iexact Hh
  iexists _; iexact HW

set_option maxHeartbeats 2000000 in
/-- The second point of a tile: start the next tile's transfer, add a chunk. -/
theorem runC (c : Dev nD) (i : grid0.Coords) (h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (h2 : ¬ (k0_cond2 i = 1#1)) (h3 : (k0_cond3 i = 1#1)) (h4 : (k0_cond4 i = 1#1)) (h5 : ¬ (k0_cond5 i = 1#1)) (X : HBuf (F := F) c) (acc : Vec F S1024x2048 .f32) (xn : Vec F S1024x2048 .bf16)
    (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1x2048 .f32) (x1 : Vec F S2048x512 .bf16) (x2 : Vec F S2048x512 .bf16) (x3 : Vec F S512x2048 .bf16) (x4 : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare acc ∗ owns (c : Thread nD τ) arg9 fullShare xn ∗ semVal ((c : Thread nD τ), SemLoc.dma sm) 0 ∗ (∃ f, tbPt c f) ∗ hbPt c X
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay2 xn x1 x2 acc x3) ∗ owns (c : Thread nD τ) arg9 fullShare xn ∗ (∃ f, flying c X (k0_off2 i) (k0_off2_inb i h3) f)) -∗ K ⟨⟩))
      ⊢ wp frame (wpE (defs₀ (F := F)) Variants.none c none) Set.univ (cc0_ffn_mid i hbM (Memref.isWhole_whole _) arg3 harg3 arg4 harg4 arg5 harg5 arg6 harg6 arg7 harg7 arg8 harg8 arg9 harg9 tbM (Memref.isWhole_whole _) cc0_scratch1) K := by
  simp only [cc0_ffn_mid_eq_skeleton]; unfold cc0_ffn_mid_skel
  simp only [dif_neg h1, dif_neg h2, dif_pos h3, dif_pos h4, dif_neg h5]
  unfold owns flying tileM
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%fx, %hfx, Hx⟩, Hq, ⟨%ft, Ht⟩, Hh, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H8]
  · iexists _; isplitr; swap; (· iexact H8); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4, hf8, hfx]
  isplitl [Hx]
  · iexists _; isplitr; swap; (· iexact Hx); ipureintro; exact hfx
  iexists _
  isplitl [Hq]; · iexact Hq
  iexact Hh

set_option maxHeartbeats 2000000 in
/-- Any other point of a tile before the last: add a chunk. -/
theorem runD (c : Dev nD) (i : grid0.Coords) (h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (h2 : ¬ (k0_cond2 i = 1#1)) (h3 : ¬ (k0_cond3 i = 1#1)) (h4 : (k0_cond4 i = 1#1)) (h5 : ¬ (k0_cond5 i = 1#1)) (acc : Vec F S1024x2048 .f32) (xn : Vec F S1024x2048 .bf16)
    (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1x2048 .f32) (x1 : Vec F S2048x512 .bf16) (x2 : Vec F S2048x512 .bf16) (x3 : Vec F S512x2048 .bf16) (x4 : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare acc ∗ owns (c : Thread nD τ) arg9 fullShare xn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay2 xn x1 x2 acc x3) ∗ owns (c : Thread nD τ) arg9 fullShare xn) -∗ K ⟨⟩))
      ⊢ wp frame (wpE (defs₀ (F := F)) Variants.none c none) Set.univ (cc0_ffn_mid i hbM (Memref.isWhole_whole _) arg3 harg3 arg4 harg4 arg5 harg5 arg6 harg6 arg7 harg7 arg8 harg8 arg9 harg9 tbM (Memref.isWhole_whole _) cc0_scratch1) K := by
  simp only [cc0_ffn_mid_eq_skeleton]; unfold cc0_ffn_mid_skel
  simp only [dif_neg h1, dif_neg h2, dif_neg h3, dif_pos h4, dif_neg h5]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%fx, %hfx, Hx⟩, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H8]
  · iexists _; isplitr; swap; (· iexact H8); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4, hf8, hfx]
  iexists _; isplitr; swap; (· iexact Hx); ipureintro; exact hfx

set_option maxHeartbeats 2000000 in
/-- A tile's last point: add the last chunk and normalize the sum. -/
theorem runE (c : Dev nD) (i : grid0.Coords) (h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (h2 : ¬ (k0_cond2 i = 1#1)) (h3 : ¬ (k0_cond3 i = 1#1)) (h4 : ¬ (k0_cond4 i = 1#1)) (h5 : (k0_cond5 i = 1#1)) (acc : Vec F S1024x2048 .f32) (xn : Vec F S1024x2048 .bf16)
    (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1x2048 .f32) (x1 : Vec F S2048x512 .bf16) (x2 : Vec F S2048x512 .bf16) (x3 : Vec F S512x2048 .bf16) (x4 : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare acc ∗ owns (c : Thread nD τ) arg9 fullShare xn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay6 xn x1 x2 acc x3) ∗ owns (c : Thread nD τ) arg9 fullShare (k0_pay3 (k0_pay6 xn x1 x2 acc x3) x4 (k0_pay7 xn x1 x2 acc x3))) -∗ K ⟨⟩))
      ⊢ wp frame (wpE (defs₀ (F := F)) Variants.none c none) Set.univ (cc0_ffn_mid i hbM (Memref.isWhole_whole _) arg3 harg3 arg4 harg4 arg5 harg5 arg6 harg6 arg7 harg7 arg8 harg8 arg9 harg9 tbM (Memref.isWhole_whole _) cc0_scratch1) K := by
  simp only [cc0_ffn_mid_eq_skeleton]; unfold cc0_ffn_mid_skel
  simp only [dif_neg h1, dif_neg h2, dif_neg h3, dif_neg h4, dif_pos h5, k0_part2_eq_skeleton, k0_part2_skel]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%fx, %hfx, Hx⟩, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H8]
  · iexists _; isplitr; swap; (· iexact H8); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4, hf8, hfx]
  iexists _; isplitr; swap; (· iexact Hx); ipureintro; simp only [read_store (s := S1024x2048) _ _ zero2, readAt_all (s := S1024x2048) _ _ zero2, readAt_all (s := S2048x512) _ _ zero2, readAt_all (s := S512x2048) _ _ zero2, readAt_all (s := S1x2048) _ _ zero2, readCov_all (s := S1024x2048) _ _ zero2, hf0, hf1, hf2, hf3, hf4, hf8, hfx]

end Cert.MidIdeal.Hand
end
-- ==== Proof.MidFrame.lean ====
/- The frame of the first feed-forward kernel: what each grid point finds and leaves, with the one tile transfer that crosses
   points carried in the invariant. -/
module

public import proofs.«01_k».proof.Proof.Gen.MidIdeal.Frame
public import proofs.«01_k».proof.Proof.MidBody
public import Idealize.ShloMosaic.Lib.Pipeline.TableIdle
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.MidIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MidIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The tiles and the values point by point -/

/-- Where row tile `b` starts. -/
abbrev off (b : ℕ) : Fin 2 → ℕ := ![1024 * (b % 16), 0]
theorem off_inb (b : ℕ) : ∀ a, off b a + S1024x2048.size a ≤ S16384x2048.size a := by
  intro a; have := Nat.mod_lt b (show 0 < 16 by omega)
  match a with
  | 0 => show 1024 * (b % 16) + 1024 ≤ 16384; omega
  | 1 => show 0 + 2048 ≤ 2048; omega

def tileAt (c : Dev nD) (b : ℕ) : Vec F S1024x2048 .f32 := tileOf c (V m c main_arg0) (off b) (off_inb b)

theorem N_pos : 0 < cfg0.N := by decide

/-- Row tile `b` normalized. -/
def xnAt (c : Dev nD) (b : ℕ) : Vec F S1024x2048 .bf16 := k0_pay4 (tileAt m c b) (iblk m c 0 ⟨0, N_pos⟩)
theorem xnAt_eq (c : Dev nD) (b : ℕ) (t : Fin cfg0.N) : xnAt m c b = k0_pay4 (tileAt m c b) (iblk m c 0 t) := rfl

/-- The output's block after point `n`. -/
def outsAt (c : Dev nD) : ℕ → Vec F S1024x2048 .f32
  | 0 => step 0 (tileAt m c 0)
  | n + 1 => step (n + 1) (outsAt c n)
where
  step (n : ℕ) (acc : Vec F S1024x2048 .f32) : Vec F S1024x2048 .f32 :=
    if h : n < cfg0.N then
      if n % 11 = 0 then k0_pay1 (k0_pay5 (tileAt m c (n / 11)) (iblk m c 0 ⟨n, h⟩) (iblk m c 1 ⟨n, h⟩) (iblk m c 2 ⟨n, h⟩)) (tileAt m c (n / 11)) (iblk m c 3 ⟨n, h⟩)
      else k0_pay2 (xnAt m c (n / 11)) (iblk m c 1 ⟨n, h⟩) (iblk m c 2 ⟨n, h⟩) acc (iblk m c 3 ⟨n, h⟩)
    else acc

theorem outsAt_A (c : Dev nD) (t : Fin cfg0.N) (h : t.val % 11 = 0) :
    outsAt m c t.val = k0_pay1 (k0_pay5 (tileAt m c (t.val / 11)) (iblk m c 0 t) (iblk m c 1 t) (iblk m c 2 t)) (tileAt m c (t.val / 11)) (iblk m c 3 t) := by
  obtain ⟨n, hn⟩ := t
  cases n with
  | zero => unfold outsAt outsAt.step; rw [dif_pos hn, if_pos h]
  | succ n => unfold outsAt outsAt.step; rw [dif_pos hn, if_pos h]
theorem outsAt_B (c : Dev nD) (t : Fin cfg0.N) (h : t.val % 11 ≠ 0) :
    outsAt m c t.val = k0_pay2 (xnAt m c (t.val / 11)) (iblk m c 1 t) (iblk m c 2 t) (outsAt m c (t.val - 1)) (iblk m c 3 t) := by
  obtain ⟨n, hn⟩ := t
  cases n with
  | zero => exact absurd rfl h
  | succ n => rw [outsAt]; unfold outsAt.step; rw [dif_pos hn, if_neg h]; rfl

/-- The last chunk is added as the ones before it. -/
theorem pay6_eq (xn : Vec F S1024x2048 .bf16) (wg wu : Vec F S2048x512 .bf16) (acc : Vec F S1024x2048 .f32) (wd : Vec F S512x2048 .bf16) :
    k0_pay6 xn wg wu acc wd = k0_pay2 xn wg wu acc wd := rfl

theorem outsAt_C (c : Dev nD) (t : Fin cfg0.N) (h : t.val % 11 ≠ 0) :
    outsAt m c t.val = k0_pay6 (xnAt m c (t.val / 11)) (iblk m c 1 t) (iblk m c 2 t) (outsAt m c (t.val - 1)) (iblk m c 3 t) :=
  (outsAt_B m c t h).trans (pay6_eq _ _ _ _ _).symm

/-- What a tile's last point leaves in the second result's block: the sum normalized. -/
def lastAt (c : Dev nD) (t : Fin cfg0.N) : Vec F S1024x2048 .bf16 :=
  k0_pay3 (k0_pay6 (xnAt m c (t.val / 11)) (iblk m c 1 t) (iblk m c 2 t) (outsAt m c (t.val - 1)) (iblk m c 3 t)) (iblk m c 4 t)
    (k0_pay7 (xnAt m c (t.val / 11)) (iblk m c 1 t) (iblk m c 2 t) (outsAt m c (t.val - 1)) (iblk m c 3 t))

/-! ## The invariant -/

/-- Before point `n` the transfer of tile `(n + 9) / 11` is under way. -/
def flies (n : ℕ) : Prop := 1 ≤ (n + 9) / 11 ∧ (n + 9) / 11 < 16 ∧ n % 11 ≠ 1
instance (n : ℕ) : Decidable (flies n) := by unfold flies; infer_instance

def ring (c : Dev nD) (n : ℕ) : sProp 𝕄 :=
  if flies n then iprop(∃ f, flying c (V m c main_arg0) (off ((n + 9) / 11)) (off_inb _) f)
  else iprop(semVal ((c : Thread nD τ), SemLoc.dma sm) 0 ∗ (∃ f, tbPt c f) ∗ hbPt c (V m c main_arg0))

theorem ring_flies (c : Dev nD) {n : ℕ} (h : flies n) :
    ring m c n = iprop(∃ f, flying c (V m c main_arg0) (off ((n + 9) / 11)) (off_inb _) f) := if_pos h
theorem ring_free (c : Dev nD) {n : ℕ} (h : ¬ flies n) :
    ring m c n = iprop(semVal ((c : Thread nD τ), SemLoc.dma sm) 0 ∗ (∃ f, tbPt c f) ∗ hbPt c (V m c main_arg0)) := if_neg h
theorem ring_succ (c : Dev nD) {n : ℕ} (h : n % 11 ≠ 0) (h' : ¬ (n % 11 = 1 ∧ n / 11 < 15)) (hn : n < 176) : ring m c (n + 1) = ring m c n := by
  by_cases e : flies n
  · have e' : flies (n + 1) := by unfold flies at *; omega
    rw [ring_flies m c e, ring_flies m c e']
    have : (n + 1 + 9) / 11 = (n + 9) / 11 := by unfold flies at *; omega
    rw [this]
  · have e' : ¬ flies (n + 1) := by unfold flies at *; omega
    rw [ring_free m c e, ring_free m c e']

theorem flying_ex (c : Dev nD) {o o' : Fin 2 → ℕ} (e : o = o') (h : ∀ a, o a + S1024x2048.size a ≤ S16384x2048.size a)
    (h' : ∀ a, o' a + S1024x2048.size a ≤ S16384x2048.size a) :
    (iprop(∃ f, flying c (V m c main_arg0) o h f) : sProp 𝕄) = iprop(∃ f, flying c (V m c main_arg0) o' h' f) := by subst e; rfl

/-! ## The grid's points -/

theorem c1 : ∀ t : Fin grid0.N, (Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32) = 1#1 ↔ t.val = 0 := by decide +kernel
theorem c2 : ∀ t : Fin grid0.N, k0_cond2 (grid0.coords t) = 1#1 ↔ t.val % 11 = 0 := by decide +kernel
theorem c3 : ∀ t : Fin grid0.N, k0_cond3 (grid0.coords t) = 1#1 ↔ t.val % 11 = 1 ∧ t.val / 11 < 15 := by decide +kernel
theorem c4 : ∀ t : Fin grid0.N, k0_cond4 (grid0.coords t) = 1#1 ↔ 1 ≤ t.val % 11 ∧ t.val % 11 ≤ 9 := by decide +kernel
theorem c5 : ∀ t : Fin grid0.N, k0_cond5 (grid0.coords t) = 1#1 ↔ t.val % 11 = 10 := by decide +kernel
theorem coord0 : ∀ t : Fin grid0.N, (grid0.coords t 0).val = t.val / 11 := by decide +kernel
theorem live5 : ∀ i : cfg0.grid.Coords, cfg0.idle 5 i = false := by decide +kernel
theorem idle6 : ∀ t : Fin grid0.N, cfg0.idle 6 (grid0.coords t) = true ↔ 1 ≤ t.val % 11 ∧ t.val % 11 ≤ 9 := by decide +kernel
theorem fresh6_step : ∀ t : Fin grid0.N, decide ((t.val + 1) % 11 = 0)
    = (decide (t.val % 11 = 10) || (cfg0.idle 6 (grid0.coords t) && decide (t.val % 11 = 0))) := by decide +kernel
/-- The second result's block holds nothing stored exactly at a tile's first point. -/
theorem fresh6 (n : ℕ) (h : n ≤ cfg0.N) : cfg0.fresh 6 n = decide (n % 11 = 0) :=
  cfg0.fresh_tab 6 (fun n => decide (n % 11 = 0)) rfl (fun t => by
    have e : (cfg0.win 6).flush t = decide (t.val % 11 = 10) := by rw [Bool.eq_iff_iff, flush0_6 t, decide_eq_true_iff]
    rw [e]; exact fresh6_step t) n h

theorem off_next (t : Fin cfg0.N) (h : t.val % 11 = 1) (h' : t.val / 11 < 15) : off ((t.val + 1 + 9) / 11) = k0_off2 (grid0.coords t) := by
  rw [k0_off2_eq, coord0 t]
  have : 1024 * ((t.val + 1 + 9) / 11 % 16) = 1024 * (t.val / 11) + 1024 := by omega
  unfold off; rw [this]

/-! ## The proof data -/

abbrev osem0 : Fin 1 → SemLoc sig := fun j => (![SemLoc.dma 12] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 12) 0 := by
  rw [Pipeline.ownSems0_eq_of_list c osem0 [0] (by decide) (by decide)]; rfl
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄) = (((c : Thread nD τ).loc main_arg0) ↦{fullShare} V m c main_arg0) := by
  rw [BI.bigSep_eq_bigSepL_of_eq [main_arg0] (by decide) (by decide)]; rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t.val
    | ⟨6, _⟩ => if t.val % 11 = 10 then lastAt m c t else xnAt m c (t.val / 11)
  Φ n := iprop((∃ r, prngReg c r) ∗ ring m c n.val)
  q _ := fullShare
  owed _ := 0

theorem A_eq (c : Dev nD) (w : Fin cfg0.W) : (dats m 0 c).A w = V m c (Pipeline.arrRef spec0 w) := by dsimp only [dats]
theorem Phi_eq (c : Dev nD) (n : Fin (cfg0.N + 1)) : (dats m 0 c).Φ n = iprop((∃ r, prngReg c r) ∗ ring m c n.val) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt m c t.val := by dsimp only [dats]
theorem after0_6_last (c : Dev nD) (t : Fin cfg0.N) (h : t.val % 11 = 10) : (dats m 0 c).after 6 t = lastAt m c t := by dsimp only [dats]; exact if_pos h
theorem after0_6_rest (c : Dev nD) (t : Fin cfg0.N) (h : ¬ t.val % 11 = 10) : (dats m 0 c).after 6 t = xnAt m c (t.val / 11) := by dsimp only [dats]; exact if_neg h
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (h : t.val % 11 ≠ 0) (d) : (dats m 0 c).before 5 t d = outsAt m c (t.val - 1) := by
  have hf : (cfg0.win 5).flush ⟨t.val - 1, Nat.lt_of_le_of_lt (Nat.sub_le _ _) t.isLt⟩ = false :=
    Bool.eq_false_iff.mpr fun e => by have := (flush0_5 _).mp e; dsimp only at this; omega
  rw [(dats m 0 c).before_out_kept 5 rfl t (by omega) hf live5 (fun _ _ => rfl) d, after0_5]

theorem before0_6 (c : Dev nD) (t : Fin cfg0.N) (h : t.val % 11 ≠ 0) (d) : (dats m 0 c).before 6 t d = xnAt m c (t.val / 11) := by
  have e : (t.val - 1) / 11 = t.val / 11 := by omega
  rw [(dats m 0 c).before_out_traj 6 rfl (fun _ _ => rfl) (fun s hs hi hf => by
      rw [fresh6 _ (by omega), decide_eq_false_iff_not] at hf
      have hi := (idle6 s).mp hi
      have e : (s.val - 1) / 11 = s.val / 11 := by omega
      rw [after0_6_rest m c s (by omega), after0_6_rest m c _ (by dsimp only; omega)]
      dsimp only
      rw [e]) t.val t rfl d, fresh6 _ (by omega), if_neg (by simpa using h), after0_6_rest m c _ (by dsimp only; omega)]
  dsimp only
  rw [e]

/-! ## The body at each point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

theorem bodyA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0 Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5, after0_6_rest m c t (by omega)]
  rw [Phi_eq, Phi_eq, show t.castSucc.val = t.val from rfl, show t.succ.val = t.val + 1 from rfl, ring_free m c (by unfold flies; omega), ring_free m c (n := t.val + 1) (by unfold flies; omega), outsAt_A m c t (by omega)]
  rw [show t.val / 11 = 0 by omega, xnAt_eq m c 0 t]
  iintro ⟨⟨Hg, Hq, Ht, Hh⟩, ⟨%W, -, HW⟩, ⟨%d0, H0⟩, ⟨%d1, H1⟩, ⟨%d2, H2⟩, ⟨%d3, H3⟩, ⟨%d4, H4⟩, ⟨%d5, H5⟩, ⟨%d6, Hx⟩⟩
  iapply (runA c (grid0.coords t) ((c1 t).2 (by omega)) ((c2 t).2 (by omega)) (fun e => absurd ((c3 t).1 e) (by omega)) (fun e => absurd ((c4 t).1 e) (by omega)) (fun e => absurd ((c5 t).1 e) (by omega)) (V m c main_arg0) W _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [Hx]; · iexists _; iexact Hx
  isplitl [Hq]; · iexact Hq
  isplitl [Ht]; · iexact Ht
  isplitl [Hh]; · iexact Hh
  isplitl [HW]; · iexact HW
  iintro ⟨H0, H1, H2, H3, H4, H5, Hx, Hq, Ht, Hh, ⟨%W', HW'⟩⟩
  isplitl [Hg Hq Ht Hh]
  · isplitl [Hg]; · iexact Hg
    isplitl [Hq]; · iexact Hq
    isplitl [Ht]; · iexact Ht
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact Hx

theorem bodyB (c : Dev nD) (t : Fin cfg0.N) (h : t.val % 11 = 0) (h0 : t.val ≠ 0) :
    bodyPre m c t ⊢ wp frame (wpE (defs₀ (F := F)) Variants.none c none) Set.univ (bodyAt0 t) (fun _ => bodyPost m c t) := by
  have hN : t.val < 176 := lt_of_lt_of_eq t.isLt N_0
  unfold bodyPre bodyPost bodyAt0 Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5, after0_6_rest m c t (by omega)]
  rw [Phi_eq, Phi_eq, show t.castSucc.val = t.val from rfl, show t.succ.val = t.val + 1 from rfl, ring_flies m c (n := t.val) (by unfold flies; omega), ring_free m c (n := t.val + 1) (by unfold flies; omega), outsAt_A m c t (by omega)]
  rw [show (t.val + 9) / 11 = t.val / 11 by omega, xnAt_eq m c _ t]
  iintro ⟨⟨Hg, Hf⟩, ⟨%W, -, HW⟩, ⟨%d0, H0⟩, ⟨%d1, H1⟩, ⟨%d2, H2⟩, ⟨%d3, H3⟩, ⟨%d4, H4⟩, ⟨%d5, H5⟩, ⟨%d6, Hx⟩⟩
  iapply (runB c (grid0.coords t) (fun e => absurd ((c1 t).1 e) (by omega)) ((c2 t).2 (by omega)) (fun e => absurd ((c3 t).1 e) (by omega)) (fun e => absurd ((c4 t).1 e) (by omega)) (fun e => absurd ((c5 t).1 e) (by omega)) (V m c main_arg0) W (off (t.val / 11)) (off_inb _) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [Hx]; · iexists _; iexact Hx
  isplitl [Hf]; · iexact Hf
  isplitl [HW]; · iexact HW
  iintro ⟨H0, H1, H2, H3, H4, H5, Hx, Hq, Ht, Hh, ⟨%W', HW'⟩⟩
  isplitl [Hg Hq Ht Hh]
  · isplitl [Hg]; · iexact Hg
    isplitl [Hq]; · iexact Hq
    isplitl [Ht]; · iexact Ht
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact Hx

theorem bodyC (c : Dev nD) (t : Fin cfg0.N) (h : t.val % 11 = 1) (h0 : t.val / 11 < 15) :
    bodyPre m c t ⊢ wp frame (wpE (defs₀ (F := F)) Variants.none c none) Set.univ (bodyAt0 t) (fun _ => bodyPost m c t) := by
  have hN : t.val < 176 := lt_of_lt_of_eq t.isLt N_0
  unfold bodyPre bodyPost bodyAt0 Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5, after0_6_rest m c t (by omega)]
  rw [Phi_eq, Phi_eq, show t.castSucc.val = t.val from rfl, show t.succ.val = t.val + 1 from rfl, ring_free m c (n := t.val) (by unfold flies; omega), ring_flies m c (n := t.val + 1) (by unfold flies; omega), outsAt_B m c t (by omega)]
  simp only [before0_5 m c t (by omega), before0_6 m c t (by omega)]
  rw [flying_ex m c (off_next t (by omega) (by omega)) _ (Gen.k0_off2_inb _ ((c3 t).2 (by omega)))]
  iintro ⟨⟨Hg, Hq, Ht, Hh⟩, ⟨%W, -, HW⟩, ⟨%d0, H0⟩, ⟨%d1, H1⟩, ⟨%d2, H2⟩, ⟨%d3, H3⟩, ⟨%d4, H4⟩, ⟨%d5, H5⟩, ⟨%d6, Hx⟩⟩
  iapply (runC c (grid0.coords t) (fun e => absurd ((c1 t).1 e) (by omega)) (fun e => absurd ((c2 t).1 e) (by omega)) ((c3 t).2 (by omega)) ((c4 t).2 (by omega)) (fun e => absurd ((c5 t).1 e) (by omega)) (V m c main_arg0) (outsAt m c (t.val - 1)) (xnAt m c (t.val / 11)) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [Hx]; · iexact Hx
  isplitl [Hq]; · iexact Hq
  isplitl [Ht]; · iexact Ht
  isplitl [Hh]; · iexact Hh
  iintro ⟨H0, H1, H2, H3, H4, H5, Hx, Hr⟩
  isplitl [Hg Hr]
  · isplitl [Hg]; · iexact Hg
    iexact Hr
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact Hx

theorem bodyD (c : Dev nD) (t : Fin cfg0.N) (h : 1 ≤ t.val % 11) (h9 : t.val % 11 ≤ 9) (h0 : ¬ (t.val % 11 = 1 ∧ t.val / 11 < 15)) :
    bodyPre m c t ⊢ wp frame (wpE (defs₀ (F := F)) Variants.none c none) Set.univ (bodyAt0 t) (fun _ => bodyPost m c t) := by
  have hN : t.val < 176 := lt_of_lt_of_eq t.isLt N_0
  unfold bodyPre bodyPost bodyAt0 Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5, after0_6_rest m c t (by omega)]
  rw [Phi_eq, Phi_eq, show t.castSucc.val = t.val from rfl, show t.succ.val = t.val + 1 from rfl, ring_succ m c (n := t.val) (by omega) (by omega) (by omega), outsAt_B m c t (by omega)]
  simp only [before0_5 m c t (by omega), before0_6 m c t (by omega)]
  iintro ⟨⟨Hg, Hr⟩, ⟨%W, -, HW⟩, ⟨%d0, H0⟩, ⟨%d1, H1⟩, ⟨%d2, H2⟩, ⟨%d3, H3⟩, ⟨%d4, H4⟩, ⟨%d5, H5⟩, ⟨%d6, Hx⟩⟩
  iapply (runD c (grid0.coords t) (fun e => absurd ((c1 t).1 e) (by omega)) (fun e => absurd ((c2 t).1 e) (by omega)) (fun e => absurd ((c3 t).1 e) (by omega)) ((c4 t).2 (by omega)) (fun e => absurd ((c5 t).1 e) (by omega)) (outsAt m c (t.val - 1)) (xnAt m c (t.val / 11)) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [Hx]; · iexact Hx
  iintro ⟨H0, H1, H2, H3, H4, H5, Hx⟩
  isplitl [Hg Hr]
  · isplitl [Hg]; · iexact Hg
    iexact Hr
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact Hx

theorem bodyE (c : Dev nD) (t : Fin cfg0.N) (h : t.val % 11 = 10) :
    bodyPre m c t ⊢ wp frame (wpE (defs₀ (F := F)) Variants.none c none) Set.univ (bodyAt0 t) (fun _ => bodyPost m c t) := by
  have hN : t.val < 176 := lt_of_lt_of_eq t.isLt N_0
  unfold bodyPre bodyPost bodyAt0 Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5, after0_6_last m c t h]
  rw [Phi_eq, Phi_eq, show t.castSucc.val = t.val from rfl, show t.succ.val = t.val + 1 from rfl, ring_succ m c (n := t.val) (by omega) (by omega) (by omega), outsAt_C m c t (by omega)]
  simp only [before0_5 m c t (by omega), before0_6 m c t (by omega)]
  iintro ⟨⟨Hg, Hr⟩, ⟨%W, -, HW⟩, ⟨%d0, H0⟩, ⟨%d1, H1⟩, ⟨%d2, H2⟩, ⟨%d3, H3⟩, ⟨%d4, H4⟩, ⟨%d5, H5⟩, ⟨%d6, Hx⟩⟩
  iapply (runE c (grid0.coords t) (fun e => absurd ((c1 t).1 e) (by omega)) (fun e => absurd ((c2 t).1 e) (by omega)) (fun e => absurd ((c3 t).1 e) (by omega)) (fun e => absurd ((c4 t).1 e) (by omega)) ((c5 t).2 (by omega)) (outsAt m c (t.val - 1)) (xnAt m c (t.val / 11)) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [Hx]; · iexact Hx
  iintro ⟨H0, H1, H2, H3, H4, H5, Hx⟩
  isplitl [Hg Hr]
  · isplitl [Hg]; · iexact Hg
    iexact Hr
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact Hx

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact bodyA m c t h0
  by_cases h1 : t.val % 11 = 0
  · exact bodyB m c t h1 h0
  by_cases h2 : t.val % 11 = 10
  · exact bodyE m c t h2
  by_cases h3 : t.val % 11 = 1 ∧ t.val / 11 < 15
  · exact bodyC m c t h3.1 h3.2
  exact bodyD m c t (by omega) (by omega) h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost; rw [live5]
  cases hi : cfg0.idle 6 (cfg0.grid.coords t)
  · exact .rfl
  · have h := (idle6 t).mp hi
    have hf : (cfg0.win 6).flush t = false := Bool.eq_false_iff.mpr fun e => by have := (flush0_6 t).mp e; omega
    rw [hf, after0_6_rest m c t (by omega), ← before0_6 m c t (by omega) (xnAt m c 0)]
    iintro ⟨HP, HO, H0, H1, H2, H3, H4, H5, H6⟩
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    iexists (xnAt m c 0); iexact H6

/-! ## The run and the frame -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem PhiD_eq (c : Dev nD) :
    (Pipeline.ΦD osem0 spec0 H0 (V m) c : sProp 𝕄)
      = iprop((∃ f : Buf (Elt F) ((c : Thread nD τ).loc cc0_scratch0), ((c : Thread nD τ).loc cc0_scratch0) ↦{fullShare} f)
          ∗ (∃ r, prngReg c r) ∗ semVal ((c : Thread nD τ), SemLoc.dma 12) 0
          ∗ (((c : Thread nD τ).loc main_arg0) ↦{fullShare} V m c main_arg0)) := by
  rw [Pipeline.ΦD_eq, scopedRest0_eq, ownSems00_eq, hbmPts0_eq]

theorem Phi_free (c : Dev nD) (n : Fin (cfg0.N + 1)) (h' : ¬ flies n.val) :
    (dats m 0 c).Φ n = iprop((∃ r, prngReg c r) ∗ semVal ((c : Thread nD τ), SemLoc.dma 12) 0 ∗ (∃ f : Buf (Elt F) ((c : Thread nD τ).loc cc0_scratch0), ((c : Thread nD τ).loc cc0_scratch0) ↦{fullShare} f)
      ∗ (((c : Thread nD τ).loc main_arg0) ↦{fullShare} V m c main_arg0)) := by
  rw [Phi_eq, ring_free m c h']
  simp only [hbM, tbM, tbPt, hbPt, Memref.view_whole, View.set_whole]

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by
      rw [PhiD_eq, Phi_free m c _ (by decide)]
      iintro ⟨Ht, Hg, Hq, Hh⟩
      isplitl [Hg]; · iexact Hg
      isplitl [Hq]; · iexact Hq
      isplitl [Ht]; · iexact Ht
      iexact Hh)
    (hout := fun c => by
      rw [PhiD_eq, Phi_free m c _ (by decide)]
      iintro ⟨Hg, Hq, Ht, Hh⟩
      isplitl [Ht]; · iexact Ht
      isplitl [Hg]; · iexact Hg
      isplitl [Hq]; · iexact Hq
      iexact Hh)

/-- The whole run: the result array, the arguments as they were, and every counter at zero. -/
theorem run_result : θ_run defs (onTc (τ := τ) (main (F := F))) ⟨m, fun _ => 0, ρ⟩ (fun r => (∀ c : Dev nD,
      r.2.mem ((c.tc : Thread nD τ).loc main_v6_0) = (dats m 0 c).arrAt 5 cfg0.N
      ∧ r.2.mem ((c.tc : Thread nD τ).loc main_v6_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 5, (h.1 c).1 6, ((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 4).trans (((dats m 0 c).arrAt_in 4 rfl _).trans ((A_eq m c 4).trans (V_main_arg5 m c)))⟩, h.2⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2, h.2⟩) (run_result m ρ)

end Cert.MidIdeal.Hand
end
-- ==== Proof.MidValue.lean ====
/- What the first feed-forward kernel computes over the extended reals: the first result is the reference's block, summed
   chunk by chunk, and the second one its rows normalized. The arithmetic of a chunk is the last feed-forward kernel's. -/
module

public import proofs.«01_k».proof.Proof.MidFrame
public import proofs.«01_k».proof.Proof.FfnValue
public import proofs.«01_k».proof.Proof.Gen.MidRefIdeal.Run

@[expose] public section

set_option maxRecDepth 16384

noncomputable section

namespace Cert.MidIdeal.Hand

open Cert.MidIdeal Cert.MidIdeal.Gen Idealize.ShloMosaic Idealize.ShloMosaic.TcCoe Idealize.SL.Sem
open Idealize.ShloMosaic.Pipeline (Dat)
open Cert.Swiglu
open Cert.FfnIdeal.Hand (row)
open Cert.FfnRefIdeal.Hand (NRM BLK)

/-! ## The payloads at an index -/

theorem pay4_at (x : Vec Ideal S1024x2048 .f32) (g : Vec Ideal S1x2048 .f32) (r : Fin 1024) (k : Fin 2048) :
    k0_pay4 x g (ix2 r k) = norm (fun k => x (ix2 r k)) (x (ix2 r k)) (g (ix2 0 k)) := by
  pointwise [k0_pay4]; rfl

theorem pay5_at (x : Vec Ideal S1024x2048 .f32) (g : Vec Ideal S1x2048 .f32) (wg wu : Vec Ideal S2048x512 .bf16) (r : Fin 1024) (l : Fin 512) :
    k0_pay5 x g wg wu (ix2 r l)
      = gated (∑ k, norm (fun k => x (ix2 r k)) (x (ix2 r k)) (g (ix2 0 k)) * wg (ix2 k l))
          (∑ k, norm (fun k => x (ix2 r k)) (x (ix2 r k)) (g (ix2 0 k)) * wu (ix2 k l)) := by
  simp only [← pay4_at]
  unfold k0_pay5; generalize k0_pay4 x g = y
  pointwise []; rfl

theorem pay1_at (v : Vec Ideal S1024x512 .bf16) (acc : Vec Ideal S1024x2048 .f32) (wd : Vec Ideal S512x2048 .bf16) (r : Fin 1024) (k : Fin 2048) :
    k0_pay1 v acc wd (ix2 r k) = acc (ix2 r k) + ∑ l, v (ix2 r l) * wd (ix2 l k) := by
  pointwise [k0_pay1]

theorem pay2_at (xn : Vec Ideal S1024x2048 .bf16) (wg wu : Vec Ideal S2048x512 .bf16) (acc : Vec Ideal S1024x2048 .f32) (wd : Vec Ideal S512x2048 .bf16)
    (r : Fin 1024) (k : Fin 2048) :
    k0_pay2 xn wg wu acc wd (ix2 r k)
      = acc (ix2 r k) + ∑ l, gated (∑ k, xn (ix2 r k) * wg (ix2 k l)) (∑ k, xn (ix2 r k) * wu (ix2 k l)) * wd (ix2 l k) := by
  pointwise [k0_pay2]; rfl

/-- The mean square of every row of a block, the constant added, in the kernel's operations. -/
def mean (v : FVec Ideal S1024x2048 .f32) : FVec Ideal S1024x1 .f32 :=
  addf (divf (shapeCast S1024x1 (multiReduction .add [1] S1024 (mulf v v) 0x00000000#32 reduces_S1024x2048_S1024 (.inl rfl) rfl)
      shapeCasts_S1024_S1024x1) (broadcast S1024x1 (Scalar.ofBits .f32 0x45000000#32))) (broadcast S1024x1 (Scalar.ofBits .f32 0x358637BD#32))

theorem pay7_eq (xn : Vec Ideal S1024x2048 .bf16) (wg wu : Vec Ideal S2048x512 .bf16) (acc : Vec Ideal S1024x2048 .f32) (wd : Vec Ideal S512x2048 .bf16) :
    k0_pay7 xn wg wu acc wd = mean (k0_pay6 xn wg wu acc wd) := rfl

theorem last_at (v : FVec Ideal S1024x2048 .f32) (g : Vec Ideal S1x2048 .f32) (r : Fin 1024) (k : Fin 2048) :
    k0_pay3 v g (mean v) (ix2 r k) = norm (fun k => v (ix2 r k)) (v (ix2 r k)) (g (ix2 0 k)) := by
  pointwise [k0_pay3, mean]; rfl

/-! ## The blocks at an index -/

variable (m : (ℓ : Loc nD τ sig) → Buf (Elt Ideal) ℓ)

theorem idx : ∀ t : Fin cfg0.N, win0_0.index t = ![0, 0] ∧ win0_1.index t = ![0, t.val % 11] ∧ win0_2.index t = ![0, t.val % 11]
    ∧ win0_3.index t = ![t.val % 11, 0] ∧ win0_4.index t = ![0, 0] ∧ win0_5.index t = ![t.val / 11, 0] ∧ win0_6.index t = ![t.val / 11, 0] :=
  (by decide +kernel : ∀ t : Fin grid0.N, _)

theorem gpre_at (c : Dev nD) (t : Fin cfg0.N) (k : Fin 2048) : iblk m c 0 t (ix2 0 k) = m ((c : Thread nD τ).loc main_arg1) (ix2 0 k) := by
  blk_point [iblk, V, idx t]
theorem gmix_at (c : Dev nD) (t : Fin cfg0.N) (k : Fin 2048) : iblk m c 4 t (ix2 0 k) = m ((c : Thread nD τ).loc main_arg5) (ix2 0 k) := by
  blk_point [iblk, V, idx t]
theorem wg_at (c : Dev nD) (t : Fin cfg0.N) (k : Fin 2048) (l : Fin 512) :
    iblk m c 1 t (ix2 k l) = m ((c : Thread nD τ).loc main_arg2) (ix3 0 k (lane (t.val % 11) l)) := by
  blk_point [iblk, V, idx t, lane]
theorem wu_at (c : Dev nD) (t : Fin cfg0.N) (k : Fin 2048) (l : Fin 512) :
    iblk m c 2 t (ix2 k l) = m ((c : Thread nD τ).loc main_arg3) (ix3 0 k (lane (t.val % 11) l)) := by
  blk_point [iblk, V, idx t, lane]
theorem wd_at (c : Dev nD) (t : Fin cfg0.N) (k : Fin 2048) (l : Fin 512) :
    iblk m c 3 t (ix2 l k) = m ((c : Thread nD τ).loc main_arg4) (ix3 0 (lane (t.val % 11) l) k) := by
  blk_point [iblk, V, idx t, lane]

theorem tile_at (c : Dev nD) (b : ℕ) (r : Fin 1024) (k : Fin 2048) :
    tileAt m c b (ix2 r k) = m ((c : Thread nD τ).loc main_arg0) (ix2 (row b r) k) := by
  unfold tileAt
  rw [V_main_arg0]
  refine congrArg (m ((c : Thread nD τ).loc main_arg0)) ?_
  funext d
  match d with
  | 0 => apply Fin.ext; show 1024 * (b % 16) + _ = _; simp [row]
  | 1 => apply Fin.ext; show 0 + _ = _; simp

/-! ## The chunks of one tile -/

/-- Row `r` of tile `b` normalized: the row the hidden layer reads. -/
def xrow (c : Dev nD) (b : ℕ) (r : Fin 1024) (k : Fin 2048) : EReal :=
  norm (fun k => m ((c : Thread nD τ).loc main_arg0) (ix2 (row b r) k)) (m ((c : Thread nD τ).loc main_arg0) (ix2 (row b r) k))
    (m ((c : Thread nD τ).loc main_arg1) (ix2 0 k))

/-- Entry `k` of row `r` of tile `b`. -/
def xent (c : Dev nD) (b : ℕ) (r : Fin 1024) (k : Fin 2048) : EReal := m ((c : Thread nD τ).loc main_arg0) (ix2 (row b r) k)

/-- What chunk `s` adds at row `r`, column `k` of tile `b`. -/
def part (c : Dev nD) (b : ℕ) (r : Fin 1024) (k : Fin 2048) (s : ℕ) : EReal :=
  term (xrow m c b r) (fun k l => m ((c : Thread nD τ).loc main_arg2) (ix3 0 k l)) (fun k l => m ((c : Thread nD τ).loc main_arg3) (ix3 0 k l))
    (fun l => m ((c : Thread nD τ).loc main_arg4) (ix3 0 l k)) s

theorem first_at (c : Dev nD) (t : Fin cfg0.N) (r : Fin 1024) (k : Fin 2048) :
    k0_pay1 (k0_pay5 (tileAt m c (t.val / 11)) (iblk m c 0 t) (iblk m c 1 t) (iblk m c 2 t)) (tileAt m c (t.val / 11)) (iblk m c 3 t) (ix2 r k)
      = xent m c (t.val / 11) r k + part m c (t.val / 11) r k (t.val % 11) := by
  rw [pay1_at]
  simp only [pay5_at, tile_at, gpre_at, wg_at, wu_at, wd_at]
  rfl

theorem xnAt_at (c : Dev nD) (b : ℕ) (r : Fin 1024) (k : Fin 2048) : xnAt m c b (ix2 r k) = xrow m c b r k := by
  rw [xnAt, pay4_at]
  simp only [tile_at, gpre_at]
  rfl

theorem next_at (c : Dev nD) (t : Fin cfg0.N) (acc : Vec Ideal S1024x2048 .f32) (r : Fin 1024) (k : Fin 2048) :
    k0_pay2 (xnAt m c (t.val / 11)) (iblk m c 1 t) (iblk m c 2 t) acc (iblk m c 3 t) (ix2 r k)
      = acc (ix2 r k) + part m c (t.val / 11) r k (t.val % 11) := by
  rw [pay2_at]
  simp only [xnAt_at, wg_at, wu_at, wd_at]
  rfl

theorem N_eq : cfg0.N = 176 := by decide +kernel

/-- The block after chunk `f` of tile `b`. -/
theorem acc_at (c : Dev nD) (b : ℕ) (hb : b < 16) (r : Fin 1024) (k : Fin 2048) (f : ℕ) (hf : f ≤ 10) :
    outsAt m c (11 * b + f) (ix2 r k)
      = xent m c b r k + ∑ s ∈ Finset.range (f + 1), part m c b r k s := by
  have hN := N_eq
  refine run_sum (fun n => outsAt m c n (ix2 r k)) _ (part m c b r k) (11 * b) 10 ?_ ?_ f hf
  · have h := first_at m c ⟨11 * b, by omega⟩ r k
    rw [← outsAt_A m c ⟨11 * b, by omega⟩ (by dsimp only; omega)] at h
    have e1 : 11 * b / 11 = b := by omega
    have e2 : 11 * b % 11 = 0 := by omega
    dsimp only at h ⊢
    rw [h, e1, e2]
  · intro f hf
    have h := next_at m c ⟨11 * b + f + 1, by omega⟩ (outsAt m c (11 * b + f + 1 - 1)) r k
    have h2 := outsAt_B m c ⟨11 * b + f + 1, by omega⟩ (by dsimp only; omega)
    have e1 : (11 * b + f + 1) / 11 = b := by omega
    have e2 : (11 * b + f + 1) % 11 = f + 1 := by omega
    dsimp only at h h2 ⊢
    rw [h2, h, e1, e2, Nat.add_sub_cancel]

/-- The reference's first result of the kernel's arguments. -/
def REF0 (c : Dev nD) : FVec Ideal S16384x2048 .f32 :=
  BLK (m ((c : Thread nD τ).loc main_arg0)) (m ((c : Thread nD τ).loc main_arg1)) (m ((c : Thread nD τ).loc main_arg2))
    (m ((c : Thread nD τ).loc main_arg3)) (m ((c : Thread nD τ).loc main_arg4))

/-- The reference's second result of the kernel's arguments. -/
def REF1 (c : Dev nD) : FVec Ideal S16384x2048 .bf16 :=
  truncf .bf16 (NRM (REF0 m c) (shapeCast Cert.FfnRefIdeal.S2048 (m ((c : Thread nD τ).loc main_arg5)) Cert.FfnRefIdeal.Gen.facts.shapeCasts_S1x2048_S2048)) (by decide)

/-- The whole sum of a tile after its last chunk. -/
theorem point0 (c : Dev nD) (t : Fin cfg0.N) (ht : t.val % 11 = 10) (r : Fin 1024) (k : Fin 2048) :
    outsAt m c t.val (ix2 r k) = REF0 m c (ix2 (row (t.val / 11) r) k) := by
  have hN := N_eq
  have hlt := t.isLt
  rw [REF0, Cert.FfnRefIdeal.Hand.BLK_at, ← entry_eq, show t.val = 11 * (t.val / 11) + 10 by omega,
    acc_at m c (t.val / 11) (by omega) r k 10 le_rfl, show (11 * (t.val / 11) + 10) / 11 = t.val / 11 by omega]
  rfl

theorem point1 (c : Dev nD) (t : Fin cfg0.N) (ht : t.val % 11 = 10) (r : Fin 1024) (k : Fin 2048) :
    lastAt m c t (ix2 r k) = REF1 m c (ix2 (row (t.val / 11) r) k) := by
  have hg : ∀ (g : FVec Ideal S1x2048 .f32) (k : Fin 2048), shapeCast Cert.FfnRefIdeal.S2048 g Cert.FfnRefIdeal.Gen.facts.shapeCasts_S1x2048_S2048 (ix1 k) = g (ix2 0 k) :=
    fun g k => by pointwise []
  have e : REF1 m c (ix2 (row (t.val / 11) r) k) = NRM (REF0 m c) (shapeCast Cert.FfnRefIdeal.S2048 (m ((c : Thread nD τ).loc main_arg5)) Cert.FfnRefIdeal.Gen.facts.shapeCasts_S1x2048_S2048)
      (ix2 (row (t.val / 11) r) k) := by unfold REF1; pointwise []
  rw [e, Cert.FfnRefIdeal.Hand.NRM_at, hg, lastAt, pay7_eq, ← outsAt_C m c t (by omega), last_at]
  simp only [point0 m c t ht, gmix_at]

theorem emb5 (t : Fin cfg0.N) (y : S1024x2048.Idx) : ((cfg0.win 5).blk t).view.emb y = ix2 (row (t.val / 11) (y 0)) (y 1) := by
  have hN := N_eq
  have hlt := t.isLt
  have hm : t.val / 11 % 16 = t.val / 11 := by omega
  blk_ext [idx t, row, hm]
theorem emb6 (t : Fin cfg0.N) (y : S1024x2048.Idx) : ((cfg0.win 6).blk t).view.emb y = ix2 (row (t.val / 11) (y 0)) (y 1) := by
  have hN := N_eq
  have hlt := t.isLt
  have hm : t.val / 11 % 16 = t.val / 11 := by omega
  blk_ext [idx t, row, hm]

theorem pair (y : S1024x2048.Idx) : y = ix2 (y 0) (y 1) := by funext d; match d with | 0 => rfl | 1 => rfl

theorem blk0 (c : Dev nD) (t : Fin cfg0.N) (ht : t.val % 11 = 10) (y : S1024x2048.Idx) :
    outsAt m c t.val y = REF0 m c (((cfg0.win 5).blk t).view.emb y) :=
  (congrArg (outsAt m c t.val) (pair y)).trans ((point0 m c t ht (y 0) (y 1)).trans (congrArg (REF0 m c) (emb5 t y).symm))
theorem blk1 (c : Dev nD) (t : Fin cfg0.N) (ht : t.val % 11 = 10) (y : S1024x2048.Idx) :
    lastAt m c t y = REF1 m c (((cfg0.win 6).blk t).view.emb y) :=
  (congrArg (lastAt m c t) (pair y)).trans ((point1 m c t ht (y 0) (y 1)).trans (congrArg (REF1 m c) (emb6 t y).symm))

/-- The two result arrays after the run are the reference's. -/
theorem final0 (c : Dev nD) : (dats m 0 c).arrAt 5 (cfgs 0).N = REF0 m c := by
  refine (dats m 0 c).arrAt_eq_of_covers 5 _ (by decide +kernel) fun t hf y => ?_
  blk_simp; rw [after0_5]; exact blk0 m c t ((flush0_5 t).mp hf) y
theorem final1 (c : Dev nD) : (dats m 0 c).arrAt 6 (cfgs 0).N = REF1 m c := by
  refine (dats m 0 c).arrAt_eq_of_covers 6 _ (by decide +kernel) fun t hf y => ?_
  blk_simp; rw [after0_6_last m c t ((flush0_6 t).mp hf)]; exact blk1 m c t ((flush0_6 t).mp hf) y

end Cert.MidIdeal.Hand

end
-- ==== Proof.MidClaim.lean ====
/- The five claims about the first feed-forward block: both programs' and the reference's frames, the idealized text, and the value. -/
module

public import proofs.«01_k».proof.Defs
public import proofs.«01_k».proof.Proof.Gen.Mid
public import proofs.«01_k».proof.Proof.MidValue
public import Idealize.ShloMosaic.Lib.Claim

@[expose] public section

set_option maxRecDepth 16384

noncomputable section

namespace Cert.MidClaim

open Idealize.ShloMosaic Idealize.ShloMosaic.TcCoe Idealize.SL.Sem

/-- The kernel and its idealized text are the same program: the two body tables agree at their one label. -/
theorem bodies_eq {F : FTy → Type} [FloatOps F] : Cert.Mid.defs₀ (F := F) = Cert.MidIdeal.defs₀ (F := F) :=
  congrArg Defs.onTc (funext fun p => funext fun x => match p, x with
    | 0, (_, _) => rfl
    | ⟨_ + 1, h⟩, _ => absurd h (Nat.not_lt.2 (Nat.le_add_left _ _)))

theorem defs_eq {F : FTy → Type} [FloatOps F] : Cert.Mid.defs (F := F) = Cert.MidIdeal.defs (F := F) :=
  congrArg (Pipeline.defs Cert.MidIdeal.pcfgs) bodies_eq

/-- So the one run over the hardware's values is the kernel's. -/
theorem frame_kernel : Cert.quiescent_Mid := fun m g _ => by
  rw [defs_eq]
  exact Cert.MidIdeal.Hand.frame (F := Bits) m g

theorem frame_ideal : Cert.quiescent_MidIdeal := fun m g _ => Cert.MidIdeal.Hand.frame (F := Ideal) m g

/-- The reference is a line of host operations and declares no semaphore. -/
theorem frame_reference : Cert.quiescent_MidRefIdeal := fun m g _ =>
  (θ_run Cert.MidRefIdeal.defs _ _).mono (fun r h => ⟨fun c => (h c).2.2,
      Idealize.ShloMosaic.sem_eq_zero_of_no_sems (by decide) r.2⟩)
    (Cert.MidRefIdeal.Value.run (F := Ideal) m g)

theorem preserves : Cert.preserves_Mid_MidIdeal := trivial

theorem algebraic : Cert.algebraic_MidIdeal_MidRefIdeal := by
  intro m g m' g' _ hargs
  refine ⟨fun c => Cert.MidIdeal.Hand.REF0 m c, fun c => Cert.MidIdeal.Hand.REF1 m c,
    (θ_run Cert.MidIdeal.defs _ _).mono (fun _ h c => ⟨(h.1 c).1.trans (Cert.MidIdeal.Hand.final0 m c), (h.1 c).2.1.trans (Cert.MidIdeal.Hand.final1 m c), (h.1 c).2.2⟩)
      (Cert.MidIdeal.Hand.run_result (F := Ideal) m g),
    (θ_run Cert.MidRefIdeal.defs _ _).mono (fun _ h c => ⟨(h c).1.trans ?_, (h c).2.1.trans ?_, (h c).2.2⟩) (Cert.MidRefIdeal.Value.run (F := Ideal) m' g')⟩
  · obtain ⟨e0, e1, e2, e3, e4, e5⟩ := hargs c
    rw [e0, e1, e2, e3, e4]
    rfl
  · obtain ⟨e0, e1, e2, e3, e4, e5⟩ := hargs c
    unfold Cert.MidRefIdeal.Value.res_main_v39
    rw [e0, e1, e2, e3, e4, e5]
    rfl

end Cert.MidClaim

end
-- ==== Proof.MergeClaim.lean ====
/- The gated merge: its frames, from one run over any float interpretation. -/
module

public import proofs.«01_k».proof.Defs
public import proofs.«01_k».proof.Proof.Gen.Merge
public import proofs.«01_k».proof.Proof.Gen.MergeIdeal.Frame
public import proofs.«01_k».proof.Proof.Gen.MergeRefIdeal.Run
public import Idealize.ShloMosaic.Lib.Claim

@[expose] public section

noncomputable section

namespace Cert.MergeClaim

open Idealize.ShloMosaic Idealize.ShloMosaic.TcCoe Idealize.SL.Sem

/-- The two programs' bodies are the same text. -/
theorem bodies_eq {F : FTy → Type} [FloatOps F] : Cert.Merge.defs₀ (F := F) = Cert.MergeIdeal.defs₀ (F := F) :=
  congrArg Defs.onTc (funext fun p => funext fun x => match p, x with
    | 0, (_, _) => rfl
    | ⟨_ + 1, h⟩, _ => absurd h (Nat.not_lt.2 (Nat.le_add_left _ _)))

theorem defs_eq {F : FTy → Type} [FloatOps F] : Cert.Merge.defs (F := F) = Cert.MergeIdeal.defs (F := F) :=
  congrArg (Pipeline.defs Cert.MergeIdeal.pcfgs) bodies_eq

theorem frame_kernel : Cert.quiescent_Merge := fun m g _ => by
  rw [defs_eq]
  exact Cert.MergeIdeal.Gen.frame (F := Bits) m g

theorem frame_ideal : Cert.quiescent_MergeIdeal := fun m g _ => Cert.MergeIdeal.Gen.frame (F := Ideal) m g

theorem frame_reference : Cert.quiescent_MergeRefIdeal := fun m g _ =>
  (θ_run Cert.MergeRefIdeal.defs _ _).mono
    (fun r h => ⟨fun c => (h c).2, sem_eq_zero_of_no_sems (by decide) r.2⟩) (Cert.MergeRefIdeal.Value.run (F := Ideal) m g)

theorem preserves : Cert.preserves_Merge_MergeIdeal := trivial

end Cert.MergeClaim
end
-- ==== Proof.lean ====
/- Everything the certificate claims, one module of claims per program. -/
module

public import proofs.«01_k».proof.Defs
public import proofs.«01_k».proof.Proof.Gen.Pre_finite_scores
public import proofs.«01_k».proof.Proof.HeadsClaim
public import proofs.«01_k».proof.Proof.GatesClaim
public import proofs.«01_k».proof.Proof.AttnClaim
public import proofs.«01_k».proof.Proof.FfnClaim
public import proofs.«01_k».proof.Proof.MidClaim
public import proofs.«01_k».proof.Proof.MergeClaim
public import Idealize.ShloMosaic.Adequacy
public import Idealize.ShloMosaic.Init

@[expose] public section

noncomputable section

namespace Cert.Proof

open Idealize.ShloMosaic Idealize.SL.Sem

theorem claim : Cert.Claim :=
  ⟨Cert.Heads.Gen.facts, Cert.HeadsIdeal.Gen.facts, Cert.HeadsRefIdeal.Gen.facts,
    Cert.Gates.Gen.facts, Cert.GatesIdeal.Gen.facts, Cert.GatesRefIdeal.Gen.facts,
    Cert.Attn.Gen.facts, Cert.AttnIdeal.Gen.facts, Cert.AttnRefIdeal.Gen.facts,
    Cert.Ffn.Gen.facts, Cert.FfnIdeal.Gen.facts, Cert.FfnRefIdeal.Gen.facts,
    Cert.Mid.Gen.facts, Cert.MidIdeal.Gen.facts, Cert.MidRefIdeal.Gen.facts,
    Cert.Merge.Gen.facts, Cert.MergeIdeal.Gen.facts, Cert.MergeRefIdeal.Gen.facts, Cert.Pre_finite_scores.Gen.facts,
    HeadsClaim.frame_kernel, HeadsClaim.frame_ideal, HeadsClaim.frame_reference,
    GatesClaim.frame_kernel, GatesClaim.frame_ideal, GatesClaim.frame_reference,
    AttnClaim.frame_kernel, AttnClaim.frame_ideal, AttnClaim.frame_ideal_pre, AttnClaim.frame_reference, AttnClaim.frame_reference_pre,
    FfnClaim.frame_kernel, FfnClaim.frame_ideal, FfnClaim.frame_reference,
    MidClaim.frame_kernel, MidClaim.frame_ideal, MidClaim.frame_reference,
    MergeClaim.frame_kernel, MergeClaim.frame_ideal, MergeClaim.frame_reference,
    HeadsClaim.preserves, HeadsClaim.algebraic,
    GatesClaim.preserves, GatesClaim.algebraic,
    AttnClaim.preserves, AttnClaim.algebraic,
    FfnClaim.preserves, FfnClaim.algebraic,
    MidClaim.preserves, MidClaim.algebraic,
    MergeClaim.preserves⟩

end Cert.Proof

end
